-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 4096, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S4096x1024 : Shape := ⟨2, ![4096, 1024]⟩
abbrev S15 : Shape := ⟨1, ![15]⟩
abbrev S_ : Shape := ⟨0, ![]⟩
abbrev S256x1024 : Shape := ⟨2, ![256, 1024]⟩
abbrev S1 : Shape := ⟨1, ![1]⟩
abbrev S1024x128 : Shape := ⟨2, ![1024, 128]⟩
abbrev S4096x128 : Shape := ⟨2, ![4096, 128]⟩
abbrev S512x1024 : Shape := ⟨2, ![512, 1024]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S4096x1024, .f32⟩
  | .local _ .vmem, ⟨5, _⟩ => ⟨S4096x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v32 : BitVec 32 := Scalar.muli v2 c256_i32
  let v33 : Index := Scalar.indexCast v32
  let c0_21 : Index := 0#32
  ![v33.toNat, 0]
def k0_off2 (d0 : Dev nD) (c0_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : BitVec 32 := Scalar.subi v2 c0_i32_22
  let c16_i32_23 : BitVec 32 := 16#32
  let c0_i32_24 : BitVec 32 := 0#32
  let v38 : BitVec 1 := Scalar.cmpi .eq c16_i32_23 c0_i32_24
  let c1_i32_25 : BitVec 32 := 1#32
  let v39 : BitVec 32 := Scalar.select v38 c1_i32_25 c16_i32_23
  let v40 : BitVec 32 := Scalar.remsi v37 v39
  let c0_i32_27 : BitVec 32 := 0#32
  let v42 : BitVec 1 := Scalar.cmpi .slt v40 c0_i32_27
  let c0_i32_28 : BitVec 32 := 0#32
  let v43 : BitVec 1 := Scalar.cmpi .slt v39 c0_i32_28
  let v44 : BitVec 1 := Scalar.xori v42 v43
  let c0_i32_26 : BitVec 32 := 0#32
  let v41 : BitVec 1 := Scalar.cmpi .ne v40 c0_i32_26
  let v45 : BitVec 1 := Scalar.andi v44 v41
  let v46 : BitVec 32 := Scalar.addi v40 v39
  let v47 : BitVec 32 := Scalar.select v45 v46 v40
  let c256_i32_38 : BitVec 32 := 256#32
  let v61 : BitVec 32 := Scalar.muli v47 c256_i32_38
  let c0_i32_43 : BitVec 32 := 0#32
  ![v61.toNat, 0]
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_41 : BitVec 32 := 1#32
  let v62 : BitVec 32 := Scalar.muli v24 c1_i32_41
  let v63 : BitVec 32 := Scalar.addi c0_i32_42 v62
  v63.toNat
def k0_off3 (d0 : Dev nD) (c0_i32_29 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v48 : BitVec 32 := Scalar.subi v2 c0_i32_29
  let c1_i32_30 : BitVec 32 := 1#32
  let v49 : BitVec 32 := Scalar.subi v48 c1_i32_30
  let c16_i32_31 : BitVec 32 := 16#32
  let c0_i32_32 : BitVec 32 := 0#32
  let v50 : BitVec 1 := Scalar.cmpi .eq c16_i32_31 c0_i32_32
  let c1_i32_33 : BitVec 32 := 1#32
  let v51 : BitVec 32 := Scalar.select v50 c1_i32_33 c16_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c256_i32_51 : BitVec 32 := 256#32
  let v75 : BitVec 32 := Scalar.muli v59 c256_i32_51
  let c0_i32_56 : BitVec 32 := 0#32
  ![v75.toNat, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_77 : BitVec 32 := 1#32
  let v107 : BitVec 32 := Scalar.muli v24 c1_i32_77
  let v108 : BitVec 32 := Scalar.addi c0_i32_78 v107
  v108.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v152 : BitVec 32 := Scalar.muli v24 c1_i32_113
  let v153 : BitVec 32 := Scalar.addi c0_i32_114 v152
  v153.toNat
def k0_dev6 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v197 : BitVec 32 := Scalar.muli v24 c1_i32_148
  let v198 : BitVec 32 := Scalar.addi c0_i32_149 v197
  v198.toNat
def k0_dev7 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v242 : BitVec 32 := Scalar.muli v24 c1_i32_183
  let v243 : BitVec 32 := Scalar.addi c0_i32_184 v242
  v243.toNat
def k0_dev8 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v287 : BitVec 32 := Scalar.muli v24 c1_i32_218
  let v288 : BitVec 32 := Scalar.addi c0_i32_219 v287
  v288.toNat
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_253 : BitVec 32 := 1#32
  let v332 : BitVec 32 := Scalar.muli v24 c1_i32_253
  let v333 : BitVec 32 := Scalar.addi c0_i32_254 v332
  v333.toNat
def k0_dev10 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_288 : BitVec 32 := 1#32
  let v377 : BitVec 32 := Scalar.muli v24 c1_i32_288
  let v378 : BitVec 32 := Scalar.addi c0_i32_289 v377
  v378.toNat
def k0_dev11 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_323 : BitVec 32 := 1#32
  let v422 : BitVec 32 := Scalar.muli v24 c1_i32_323
  let v423 : BitVec 32 := Scalar.addi c0_i32_324 v422
  v423.toNat
def k0_dev12 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_358 : BitVec 32 := 1#32
  let v467 : BitVec 32 := Scalar.muli v24 c1_i32_358
  let v468 : BitVec 32 := Scalar.addi c0_i32_359 v467
  v468.toNat
def k0_dev13 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_393 : BitVec 32 := 1#32
  let v512 : BitVec 32 := Scalar.muli v24 c1_i32_393
  let v513 : BitVec 32 := Scalar.addi c0_i32_394 v512
  v513.toNat
def k0_dev14 (d0 : Dev nD) : Nat :=
  let c0_i32_429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_428 : BitVec 32 := 1#32
  let v557 : BitVec 32 := Scalar.muli v24 c1_i32_428
  let v558 : BitVec 32 := Scalar.addi c0_i32_429 v557
  v558.toNat
def k0_dev15 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_463 : BitVec 32 := 1#32
  let v602 : BitVec 32 := Scalar.muli v24 c1_i32_463
  let v603 : BitVec 32 := Scalar.addi c0_i32_464 v602
  v603.toNat
def k0_dev16 (d0 : Dev nD) : Nat :=
  let c0_i32_499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_498 : BitVec 32 := 1#32
  let v647 : BitVec 32 := Scalar.muli v24 c1_i32_498
  let v648 : BitVec 32 := Scalar.addi c0_i32_499 v647
  v648.toNat
def k0_dev17 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_533 : BitVec 32 := 1#32
  let v692 : BitVec 32 := Scalar.muli v24 c1_i32_533
  let v693 : BitVec 32 := Scalar.addi c0_i32_534 v692
  v693.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1x4096x1024 : Shape := ⟨3, ![1, 4096, 1024]⟩
abbrev S1024x16384 : Shape := ⟨2, ![1024, 16384]⟩
abbrev S4096x1024 : Shape := ⟨2, ![4096, 1024]⟩
abbrev S4096x16384 : Shape := ⟨2, ![4096, 16384]⟩
abbrev S4096x128x128 : Shape := ⟨3, ![4096, 128, 128]⟩
abbrev S128x4096x4096 : Shape := ⟨3, ![128, 4096, 4096]⟩
abbrev S_ : Shape := ⟨0, ![]⟩
abbrev S128x4096 : Shape := ⟨2, ![128, 4096]⟩
abbrev S128x4096x1 : Shape := ⟨3, ![128, 4096, 1]⟩
abbrev S128x128x4096 : Shape := ⟨3, ![128, 128, 4096]⟩
abbrev S4096x128x1 : Shape := ⟨3, ![4096, 128, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S4096x1024, .f32⟩
  | .hbm, ⟨5, _⟩ => ⟨S4096x16384, .f32⟩
  | .hbm, ⟨6, _⟩ => ⟨S4096x128x128, .f32⟩
  | .hbm, ⟨7, _⟩ => ⟨S4096x1024, .f32⟩
  | .hbm, ⟨8, _⟩ => ⟨S4096x16384, .f32⟩
  | .hbm, ⟨9, _⟩ => ⟨S4096x128x128, .f32⟩
  | .hbm, ⟨10, _⟩ => ⟨S4096x1024, .f32⟩
  | .hbm, ⟨11, _⟩ => ⟨S4096x16384, .f32⟩
  | .hbm, ⟨12, _⟩ => ⟨S4096x128x128, .f32⟩
  | .hbm, ⟨13, _⟩ => ⟨S128x4096x4096, .f32⟩
  | .hbm, ⟨14, _⟩ => ⟨S_, .f32⟩
  | .hbm, ⟨15, _⟩ => ⟨S128x4096x4096, .f32⟩
  | .hbm, ⟨16, _⟩ => ⟨S128x4096x4096, .f32⟩
  | .hbm, ⟨17, _⟩ => ⟨S_, .f32⟩
  | .hbm, ⟨18, _⟩ => ⟨S128x4096, .f32⟩
  | .hbm, ⟨19, _⟩ => ⟨S128x4096x1, .f32⟩
  | .hbm, ⟨20, _⟩ => ⟨S128x4096x4096, .f32⟩
  | .hbm, ⟨21, _⟩ => ⟨S128x4096x4096, .f32⟩
  | .hbm, ⟨22, _⟩ => ⟨S128x4096x4096, .f32⟩
  | .hbm, ⟨23, _⟩ => ⟨S_, .f32⟩
  | .hbm, ⟨24, _⟩ => ⟨S128x4096, .f32⟩
  | .hbm, ⟨25, _⟩ => ⟨S128x4096x1, .f32⟩
  | .hbm, ⟨26, _⟩ => ⟨S128x128x4096, .f32⟩
  | .hbm, ⟨27, _⟩ => ⟨S4096x128x128, .f32⟩
  | .hbm, ⟨28, _⟩ => ⟨S4096x128x1, .f32⟩
  | .hbm, ⟨29, _⟩ => ⟨S4096x128x128, .f32⟩
  | .hbm, ⟨30, _⟩ => ⟨S4096x128x128, .f32⟩
  | .hbm, ⟨31, _⟩ => ⟨S4096x16384, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Ring.lean ====
/-
The ring of sixteen devices: what the gather of `x` shares between its parts.

Device `c` sends to `nxt c` and receives from `prv c`. At hop `h` it forwards the block of device `back c h` (`h` steps
behind it) out of its own whole `x` into the same rows of `nxt c`'s whole `x`, and receives the block of the device
`h + 1` steps behind. Every hop has a send and a receive semaphore of its own; a barrier comes first, by which `nxt c`
lends `c` the rows `c` will write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's copy and the ring's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩
set_option backward.proofsInPublic true in
/-- The device `h` steps behind `c`. -/
def back (c : Dev nD) (h : Fin 16) : Dev nD := ⟨(c.val + (16 - h.val)) % 16, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
theorem back_back (c : Dev nD) (h : Fin 16) : back c (back c h) = h := by
  revert c h; decide +kernel
theorem back_nxt (c : Dev nD) (h : Fin 15) : back (nxt c) h.succ = back c h.castSucc := by
  revert c h; decide +kernel
theorem back_prv (c : Dev nD) (h : Fin 15) : back (prv c) h.castSucc = back c h.succ := by
  revert c h; decide +kernel

def ring : Dev nD ≃ Dev nD := ⟨nxt, prv, prv_nxt, nxt_prv⟩
def backs (c : Dev nD) : Fin 16 ≃ Dev nD := ⟨back c, back c, back_back c, back_back c⟩

/-! ## The blocks of the whole `x` -/

theorem off1_eq (c : Dev nD) : k0_off1 c = ![256 * (back c 0).val, 0] := by
  rw [back_zero]; exact k0_off1_eq c
theorem off2_eq (c : Dev nD) (h : Fin 15) :
    k0_off2 c (BitVec.ofNat 32 h.val) = ![256 * (back c h.castSucc).val, 0] := by
  revert c h; decide +kernel
theorem off3_eq (c : Dev nD) (h : Fin 15) :
    k0_off3 c (BitVec.ofNat 32 h.val) = ![256 * (back c h.succ).val, 0] := by
  revert c h; decide +kernel

theorem blk_inb (k : Dev nD) : ∀ a, (![256 * k.val, 0] : Fin 2 → Nat) a + S256x1024.size a ≤ S4096x1024.size a := by
  revert k; decide

/-- The rows of device `k`'s block in the whole `x`. -/
abbrev blkR (k : Dev nD) : Rect S4096x1024 := Rect.unit (s := S4096x1024) ![256 * k.val, 0] S256x1024.size (blk_inb k)

abbrev fM : Memref sig .tc .vmem S4096x1024 .f32 := Memref.whole cc0_scratch0
abbrev bM (k : Dev nD) : Memref sig .tc .vmem S256x1024 .f32 := fM.slice (blkR k) (fun _ => rfl)

/-- Device `c`'s buffer for the whole `x`, the rows of device `k`'s block, at contents `f`. -/
def blkPts (c k : Dev nD) (f : Buf (Elt F) ((c : Thread nD τ).loc cc0_scratch0)) : sProp 𝕄 :=
  (bM k).view.loc (c : Thread nD τ) ↦[(bM k).view.set]{fullShare} f

omit [FloatOps F] in
instance blkPts_storable (c k : Dev nD) (f) : BI.Storable (upEmb : UEmb _ 𝕄) (blkPts (F := F) c k f) := by
  unfold blkPts; infer_instance

omit [FloatOps F] in
theorem blk_set (k : Dev nD) : (bM k).view.set = (blkR k).set := View.set_slice_whole _ _

omit [FloatOps F] in
theorem blkPts_eq (c k : Dev nD) (f : Buf (Elt F) ((c : Thread nD τ).loc cc0_scratch0)) :
    blkPts c k f = (((c : Thread nD τ).loc cc0_scratch0) ↦[(blkR k).set]{fullShare} f : sProp 𝕄) := by
  unfold blkPts; rw [blk_set]

theorem blk_mem (k : Dev nD) (i : S4096x1024.Idx) : i ∈ (blkR k).set ↔ (i 0).val / 256 = k.val := by
  rw [Rect.mem_set_unit]
  have h0 : (i 0).val < 4096 := (i 0).isLt
  have h1 : (i 1).val < 1024 := (i 1).isLt
  constructor
  · intro h; have := h 0; simp at this; omega
  · intro h a
    match a with
    | 0 => simp; omega
    | 1 => simp; omega

theorem blk_disjoint {k k' : Dev nD} (h : k ≠ k') : Disjoint (blkR k).set (blkR k').set := by
  rw [Finset.disjoint_left]; intro i h1 h2
  exact h (Fin.ext ((blk_mem k i).mp h1 ▸ (blk_mem k' i).mp h2))

theorem blk_cover : Finset.univ.biUnion (fun k : Dev nD => (blkR k).set) = (Finset.univ : Finset S4096x1024.Idx) := by
  ext i
  have h0 : (i 0).val < 4096 := (i 0).isLt
  simp only [Finset.mem_biUnion, Finset.mem_univ, true_and, iff_true]
  exact ⟨⟨(i 0).val / 256, by show _ < 16; omega⟩, (blk_mem _ i).mpr rfl⟩

omit [FloatOps F] in
/-- The whole buffer is its sixteen blocks, in the order they come round to device `c`. -/
theorem all_blocks (c : Dev nD) (f : Buf (Elt F) ((c : Thread nD τ).loc cc0_scratch0)) :
    (((c : Thread nD τ).loc cc0_scratch0) ↦{fullShare} f : sProp 𝕄)
      = bigSep Finset.univ fun h : Fin 16 => blkPts c (back c h) f := by
  have h1 : (((c : Thread nD τ).loc cc0_scratch0) ↦{fullShare} f : sProp 𝕄)
      = bigSep Finset.univ fun k : Dev nD => (((c : Thread nD τ).loc cc0_scratch0) ↦[(blkR k).set]{fullShare} f : sProp 𝕄) := by
    have h := pointsTo_biUnion (nD := nD) (τ := τ) (sig := sig) (Ix := Unit) (Val := Elt F) (Name := ℕ) (U := UU) (Lvl := ℕ)
      (ℓ := (c : Thread nD τ).loc cc0_scratch0) (q := fullShare) (f := f)
      Finset.univ (fun k : Dev nD => (blkR k).set) (fun a _ b _ hab => blk_disjoint hab)
    rw [← h]
    exact congrArg (fun S => (((c : Thread nD τ).loc cc0_scratch0) ↦[S]{fullShare} f : sProp 𝕄)) blk_cover.symm
  rw [h1, bigSep_univ_equiv (backs c)]
  simp only [blkPts_eq]; rfl

omit [FloatOps F] in
/-- Its own block first, then those of its neighbours behind. -/
theorem whole_blocks (c : Dev nD) (f : Buf (Elt F) ((c : Thread nD τ).loc cc0_scratch0)) :
    (((c : Thread nD τ).loc cc0_scratch0) ↦{fullShare} f : sProp 𝕄)
      = iprop(blkPts c c f ∗ bigSep Finset.univ fun h : Fin 15 => blkPts c (back c h.succ) f) := by
  rw [all_blocks, Fin.univ_succ, Finset.cons_eq_insert, BI.bigSep_insert (by simp), BI.bigSep_map, back_zero]; rfl

omit [FloatOps F] in
/-- The block that came last, then the fifteen sent on. -/
theorem whole_blocks_last (c : Dev nD) (f : Buf (Elt F) ((c : Thread nD τ).loc cc0_scratch0)) :
    (((c : Thread nD τ).loc cc0_scratch0) ↦{fullShare} f : sProp 𝕄)
      = iprop(blkPts c (back c (Fin.last 15)) f ∗ bigSep Finset.univ fun h : Fin 15 => blkPts c (back c h.castSucc) f) := by
  rw [all_blocks, Fin.univ_castSuccEmb, Finset.cons_eq_insert, BI.bigSep_insert (by simp [Fin.ext_iff]; omega), BI.bigSep_map]; rfl

/-! ## The semaphores -/

/-- The barrier semaphore; hop `h`'s send (`false`) and receive (`true`) semaphores. -/
abbrev barS : Sem sig := (SemArray.scalar (sig.barrier 0 rfl) : Sems sig S_).sem
set_option backward.proofsInPublic true in
def xS (b : Bool) (h : Fin 15) : DmaSem sig := ⟨(if b then 20 else 5) + h.val, by
  show _ < 35; cases b <;> simp <;> omega⟩

abbrev barCell (c : Dev nD) : GSem nD τ sig := ((c : Thread nD τ), .reg barS)
abbrev xCell (c : Dev nD) (b : Bool) (h : Fin 15) : GSem nD τ sig := ((c : Thread nD τ), .dma (xS b h))

theorem xS_inj {b b' : Bool} {h h' : Fin 15} (e : xS b h = xS b' h') : b = b' ∧ h = h' := by
  have := congrArg Fin.val e
  simp only [xS] at this
  cases b <;> cases b' <;> simp at this <;> first | exact ⟨rfl, Fin.ext (by omega)⟩ | omega

/-- The kernel's own semaphores; the ring's, the barrier's first. -/
abbrev osem : Bool × Fin 15 → SemLoc sig := fun bh => .dma (xS bh.1 bh.2)
abbrev csem : Option (Bool × Fin 15) → SemLoc sig := fun | none => .reg barS | some bh => .dma (xS bh.1 bh.2)
abbrev kcell (ck : Dev nD × Option (Bool × Fin 15)) : GSem nD τ sig := ((ck.1 : Thread nD τ), csem ck.2)

/-- The units one block's transfer credits. -/
@[irreducible] def N : ℕ := (bM 0).view.dmaCredit
theorem N_pos : 0 < N := by unfold N; exact View.dmaCredit_pos _ (by decide)
theorem credit_eq (off : Fin 2 → ℕ) (inb : ∀ a, off a + S256x1024.size a ≤ S4096x1024.size a) :
    (fM.slice (Rect.unit (s := S4096x1024) off S256x1024.size inb) (fun _ => rfl) : Memref sig .tc .vmem S256x1024 .f32).view.dmaCredit = N := by
  unfold N; rfl

/-! ## The contents -/

/-- Device `c`'s block of `x`, as it lies in its staging buffer. -/
def xstg (c : Dev nD) : (cc0_stg0_0 : Ref sig .tc).ty.Contents (Elt F) :=
  (win0_0.blk (0 : Fin 1)).view.read (Elt F) (m ((c : Thread nD τ).loc main_arg0))

set_option backward.proofsInPublic true in
/-- The device whose block holds an element of the whole `x`, and the element's place in that block. -/
def own (i : S4096x1024.Idx) : Dev nD := ⟨(i 0).val / 256, by have : (i 0).val < 4096 := (i 0).isLt; show _ < 16; omega⟩
set_option backward.proofsInPublic true in
def loc (i : S4096x1024.Idx) : S256x1024.Idx := fun a => ⟨(i a).val % S256x1024.size a, Nat.mod_lt _ (by revert a; decide)⟩

/-- The whole `x`: every device's block at its rows. -/
def XF : Vec F S4096x1024 .f32 := fun i => k0_pay1 (xstg m (own i)) (loc i)

theorem own_emb (k : Dev nD) (x : S256x1024.Idx) : own ((blkR k).emb x) = k := by
  apply Fin.ext
  have h0 : (x 0).val < 256 := (x 0).isLt
  show (256 * k.val + 1 * (x 0).val) / 256 = k.val
  omega
theorem loc_emb (k : Dev nD) (x : S256x1024.Idx) : loc ((blkR k).emb x) = x := by
  funext a; apply Fin.ext
  have h0 : (x 0).val < 256 := (x 0).isLt
  have h1 : (x 1).val < 1024 := (x 1).isLt
  match a with
  | 0 => show (256 * k.val + 1 * (x 0).val) % 256 = (x 0).val; omega
  | 1 => show (0 + 1 * (x 1).val) % 1024 = (x 1).val; omega
theorem emb_loc {k : Dev nD} {i : S4096x1024.Idx} (hi : i ∈ (blkR k).set) : (blkR k).emb (loc i) = i := by
  funext a; apply Fin.ext
  have hk := (blk_mem k i).mp hi
  have h1 : (i 1).val < 1024 := (i 1).isLt
  match a with
  | 0 => show 256 * k.val + 1 * ((i 0).val % 256) = (i 0).val; omega
  | 1 => show 0 + 1 * ((i 1).val % 1024) = (i 1).val; omega
theorem XF_emb (k : Dev nD) (x : S256x1024.Idx) : XF m ((blkR k).emb x) = k0_pay1 (xstg m k) x := by
  unfold XF; rw [own_emb, loc_emb]

/-- Storing a device's own block makes its rows those of the whole `x`. -/
theorem own_store (c : Dev nD) (f : Buf (Elt F) ((c : Thread nD τ).loc cc0_scratch0)) :
    (blkPts c c ((fM.access (blkR c) : View sig .tc _ _ _).write (Elt F) f (k0_pay1 (xstg m c)) Finset.univ) : sProp 𝕄)
      = blkPts c c (XF m) := by
  unfold blkPts
  refine pointsTo_congr fun i hi => ?_
  rw [blk_set] at hi
  obtain ⟨x, rfl⟩ : ∃ x, (blkR c).emb x = i := ⟨_, emb_loc hi⟩
  rw [XF_emb]
  exact View.write_emb_of_mem (v := (fM.access (blkR c) : View sig .tc _ _ _)) _ _ (Finset.mem_univ x)

/-- A block forwarded lands as the same block of the whole `x`. -/
theorem landed (c k : Dev nD) (f : Buf (Elt F) ((c : Thread nD τ).loc cc0_scratch0)) :
    (blkPts c k ((bM k).view.write (Elt F) f ((bM k).view.read (Elt F) (XF m)) Finset.univ) : sProp 𝕄)
      = blkPts c k (XF m) := by
  unfold blkPts
  refine pointsTo_congr fun i hi => ?_
  rw [blk_set] at hi
  obtain ⟨x, rfl⟩ : ∃ x, (blkR k).emb x = i := ⟨_, emb_loc hi⟩
  exact View.write_emb_of_mem (v := (bM k).view) _ _ (Finset.mem_univ x)

end Cert.Attn

end
-- ==== Proof.Sched.lean ====
/-
The schedule of the ring's semaphores: what each unit signalled hands over, what each device owes when its kernel
starts, and the levels under which every wait sits below what its device then owes.
-/
module

public import proofs.«01_k».proof.Proof.Ring

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the units hand over -/

/-- The rows of `nxt c`'s buffer device `c` will write, hop by hop, at whatever they hold. -/
def lent (c : Dev nD) : sProp 𝕄 :=
  bigSep Finset.univ fun h : Fin 15 => iprop(∃ f, blkPts (nxt c) (back c h.castSucc) f)

/-- `nxt c`'s unit on `c`'s barrier lends those rows, `prv c`'s nothing; the units of a hop's send semaphore return the
    block sent, those of its receive semaphore bring the block received. -/
def pay (c : Dev nD) : SemLoc sig → Bool → sProp 𝕄
  | .reg _, d => if d then lent c else iprop(emp)
  | .dma q, _ => if q.val < 20 then blkPts c (back c (Fin.ofNat 16 (q.val - 5))) (XF m)
      else blkPts c (back c (Fin.ofNat 16 (q.val - 19))) (XF m)

def names : SemLoc sig → Finset Bool
  | .reg _ => Finset.univ
  | .dma q => if 5 ≤ q.val then {false} else ∅

def units : SemLoc sig → ℕ
  | .reg _ => 1
  | .dma _ => N

def ringRd : Rounds.Schedule (GSem nD τ sig) Bool 𝕄 where
  duties g r := if r = 0 ∧ g.1.2 = .tc then names g.2 else ∅
  unitless _ := False
  amount g _ _ := units g.2
  payload g _ d := pay m g.1.1 g.2 d
  amount_pos g _ _ _ := by
    rcases g with ⟨_, (_ | _)⟩
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (pay m g.1.1 g.2 d)
  rcases g with ⟨_, (_ | _)⟩
  · unfold pay lent; dsimp only; split <;> infer_instance
  · unfold pay; dsimp only; split <;> infer_instance

section Facts
variable (c : Dev nD) (b : Bool) (h : Fin 15) (d : Bool)

theorem duties_bar : (ringRd (F := F) m).duties (barCell c) 0 = Finset.univ := by
  dsimp only [ringRd]; exact if_pos ⟨rfl, rfl⟩
theorem duties_x : (ringRd (F := F) m).duties (xCell c b h) 0 = {false} := by
  dsimp only [ringRd]; rw [if_pos ⟨rfl, rfl⟩]
  exact if_pos (by cases b <;> simp [xS] <;> omega)
theorem duties_later (g : GSem nD τ sig) : ∀ r, 1 ≤ r → (ringRd (F := F) m).duties g r = ∅ :=
  fun r hr => by dsimp only [ringRd]; exact if_neg fun h => by omega

theorem amount_bar : (ringRd (F := F) m).amount (barCell c) 0 d = 1 := rfl
theorem amount_x : (ringRd (F := F) m).amount (xCell c b h) 0 d = N := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_x : (ringRd (F := F) m).expect (xCell c b h) 0 = N := by
  unfold Schedule.expect Schedule.amountOf; rw [duties_x, Finset.sum_singleton, amount_x]

theorem payload_bar : (ringRd (F := F) m).payload (barCell c) 0 d = if d then lent c else iprop(emp) := rfl
theorem payload_send : (ringRd (F := F) m).payload (xCell c false h) 0 d = blkPts c (back c h.castSucc) (XF m) := by
  show pay m c (.dma (xS false h)) d = _
  unfold pay; dsimp only
  rw [if_pos (by simp [xS]; omega)]
  congr 2
  apply Fin.ext; simp [xS, Fin.ofNat]; omega
theorem payload_recv : (ringRd (F := F) m).payload (xCell c true h) 0 d = blkPts c (back c h.succ) (XF m) := by
  show pay m c (.dma (xS true h)) d = _
  unfold pay; dsimp only
  rw [if_neg (by simp [xS])]
  congr 2
  apply Fin.ext; simp [xS, Fin.ofNat]; omega

theorem rest_bar : bigSep ((ringRd (F := F) m).duties (barCell c) 0 \ ∅) (fun d => (ringRd (F := F) m).payload (barCell c) 0 d)
    = iprop(emp ∗ lent c) := by
  rw [Finset.sdiff_empty, duties_bar, bigSep_univ_eq_bigSepL [false, true] (by decide) (by decide), bigSepL_cons_cons, bigSepL_singleton]
  rfl
theorem rest_send : bigSep ((ringRd (F := F) m).duties (xCell c false h) 0 \ ∅) (fun d => (ringRd (F := F) m).payload (xCell c false h) 0 d)
    = blkPts c (back c h.castSucc) (XF m) := by
  rw [Finset.sdiff_empty, duties_x, bigSep_singleton, payload_send]
theorem rest_recv : bigSep ((ringRd (F := F) m).duties (xCell c true h) 0 \ ∅) (fun d => (ringRd (F := F) m).payload (xCell c true h) 0 d)
    = blkPts c (back c h.succ) (XF m) := by
  rw [Finset.sdiff_empty, duties_x, bigSep_singleton, payload_recv]

end Facts

/-! ## What a device owes; the levels -/

/-- The receive credits of `nxt c` device `c` owes from hop `h` on. -/
def Osum (c : Dev nD) (h : ℕ) : CellTallies nD τ sig Unit :=
  ∑ j ∈ Finset.univ.filter (fun j : Fin 15 => h ≤ j.val), tallyAt (xCell (nxt c) true j) () N

theorem Osum_peel (c : Dev nD) (h : Fin 15) :
    Osum c h.val = Osum c (h.val + 1) + tallyAt (xCell (nxt c) true h) () N := by
  unfold Osum
  have : Finset.univ.filter (fun j : Fin 15 => h.val ≤ j.val)
      = insert h (Finset.univ.filter (fun j : Fin 15 => h.val + 1 ≤ j.val)) := by
    ext j; simp only [Finset.mem_filter, Finset.mem_univ, true_and, Finset.mem_insert, Fin.ext_iff]; omega
  rw [this, Finset.sum_insert (by simp), add_comm]

theorem Osum_end (c : Dev nD) : Osum c 15 = 0 := by
  unfold Osum
  rw [Finset.filter_false_of_mem (fun j _ => by omega), Finset.sum_empty]

def O₁ (c : Dev nD) : CellTallies nD τ sig Unit := Osum c 0 + tallyAt (barCell (nxt c)) () 1
def O₀ (c : Dev nD) : CellTallies nD τ sig Unit := O₁ c + tallyAt (barCell (prv c)) () 1

def L (g : GSem nD τ sig) : Finset Unit := if g.1.2 = .tc then {()} else ∅
/-- Staging and send semaphores at 0, the barriers at 1, hop `h`'s receive semaphores at `2 + h`. -/
def lv (g : GSem nD τ sig) (_ : Unit) : ℕ :=
  match g.2 with
  | .reg _ => 1
  | .dma q => if 20 ≤ q.val then q.val - 18 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (h : Fin 15) : lv (xCell c true h) () = 2 + h.val := by
  show (if 20 ≤ (xS true h).val then (xS true h).val - 18 else 0) = _
  simp [xS]; omega
theorem lv_send (c : Dev nD) (h : Fin 15) : lv (xCell c false h) () = 0 := by
  show (if 20 ≤ (xS false h).val then (xS false h).val - 18 else 0) = _
  simp [xS]; omega

theorem Osum_pos {c : Dev nD} {h : ℕ} {g : GSem nD τ sig} {u : Unit} (hg : 0 < Osum c h g u) :
    ∃ j : Fin 15, h ≤ j.val ∧ g = xCell (nxt c) true j := by
  unfold Osum at hg
  rw [Finset.sum_apply, Finsupp.finset_sum_apply] at hg
  obtain ⟨j, hj, h0⟩ := Finset.exists_ne_zero_of_sum_ne_zero (Nat.pos_iff_ne_zero.mp hg)
  rw [tallyAt_apply] at h0
  refine ⟨j, (Finset.mem_filter.mp hj).2, ?_⟩
  by_contra hn
  exact h0 (if_neg fun h' => hn h'.1)

/-- Owing the receive credits from hop `h` on, a device may wait on any semaphore at a level below `2 + h`. -/
theorem mayWait_ring (c : Dev nD) (sm : SemLoc sig) (h : ℕ) (hl : lv ((c : Thread nD τ), sm) () < 2 + h) :
    (levAts L lv : sProp 𝕄) ⊢ MayWait (c : Thread nD τ) sm () (Osum c h) :=
  MayOwe.of_cut (L := L) (lev := lv) (1 + h) (fun p hp => by rw [Finset.mem_singleton.mp hp, L_tc]; exact Finset.mem_singleton_self _)
    (fun g u hg => by obtain ⟨j, -, rfl⟩ := Osum_pos hg; exact Finset.mem_singleton_self _)
    (fun p hp => by rw [Finset.mem_singleton.mp hp]; show lv ((c : Thread nD τ), sm) () ≤ 1 + h; omega)
    (fun g u hg => by obtain ⟨j, hj, rfl⟩ := Osum_pos hg; cases u; rw [lv_recv]; omega)

theorem mayWait_send (c : Dev nD) (h : Fin 15) :
    (levAts L lv : sProp 𝕄) ⊢ MayWait (c : Thread nD τ) (.dma (xS false h)) () (Osum c (h.val + 1)) :=
  mayWait_ring c (.dma (xS false h)) (h.val + 1) (lt_of_eq_of_lt (lv_send c h) (by omega))
theorem mayWait_recv (c : Dev nD) (h : Fin 15) :
    (levAts L lv : sProp 𝕄) ⊢ MayWait (c : Thread nD τ) (.dma (xS true h)) () (Osum c (h.val + 1)) :=
  mayWait_ring c (.dma (xS true h)) (h.val + 1) (lt_of_eq_of_lt (lv_recv c h) (by omega))

theorem O₀_pos {c : Dev nD} {g : GSem nD τ sig} {u : Unit} (hg : 0 < O₀ c g u) : L g = {()} ∧ 0 < lv g u := by
  unfold O₀ O₁ at hg
  rw [Pi.add_apply, Finsupp.add_apply, Pi.add_apply, Finsupp.add_apply, tallyAt_apply, tallyAt_apply] at hg
  by_cases h1 : 0 < Osum c 0 g u
  · obtain ⟨j, -, rfl⟩ := Osum_pos h1
    exact ⟨L_tc _ _, by cases u; rw [lv_recv]; omega⟩
  by_cases h2 : g = barCell (nxt c)
  · subst h2; exact ⟨L_tc _ _, Nat.one_pos⟩
  by_cases h3 : g = barCell (prv c)
  · subst h3; exact ⟨L_tc _ _, Nat.one_pos⟩
  rw [if_neg (fun h' => h2 h'.1), if_neg (fun h' => h3 h'.1)] at hg
  omega

/-- Before its kernel starts, and after it has ended, a device may wait on its staging semaphores. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rw [(O₀_pos hg).1]; exact Finset.mem_singleton_self _)
      (fun p hp => by
        rw [Finset.mem_singleton.mp hp]
        show (if 20 ≤ q.val then q.val - 18 else 0) ≤ 0
        rw [if_neg (by omega)])
      (fun g u hg => (O₀_pos hg).2)
  · rw [MayWait_zero]; iintro -; iempintro

end Cert.Attn

end
-- ==== Proof.Hops.lean ====
/-
The gather, hop by hop: what device `c` holds before, within and after a hop, and the three operations that take it
from one to the next.
-/
module

public import proofs.«01_k».proof.Proof.Sched

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What every device knows: all the semaphores' invariants (at the names `K`), that each has reached its first round,
    and the levels. -/
def records (K : Dev nD × Option (Bool × Fin 15) → ℕ) : sProp 𝕄 :=
  iprop((bigSep Finset.univ fun ck : Dev nD × Option (Bool × Fin 15) => cellInv ER (ringRd m) (K ck) (kcell ck))
    ∗ bigSep Finset.univ fun ck : Dev nD × Option (Bool × Fin 15) => reached ER (kcell ck) 0)

instance records_persistent (K : Dev nD × Option (Bool × Fin 15) → ℕ) : BI.Persistent (records m K) := by unfold records; infer_instance

def Known (K : Dev nD × Option (Bool × Fin 15) → ℕ) : sProp 𝕄 := iprop(records m K ∗ levAts L lv)

instance Known_persistent (K : Dev nD × Option (Bool × Fin 15) → ℕ) : BI.Persistent (Known m K) := by unfold Known; infer_instance

variable (K : Dev nD × Option (Bool × Fin 15) → ℕ)

theorem inv_of (ck : Dev nD × Option (Bool × Fin 15)) :
    (bigSep Finset.univ fun ck : Dev nD × Option (Bool × Fin 15) => (cellInv ER (ringRd m) (K ck) (kcell ck) : sProp 𝕄))
      ⊢ cellInv ER (ringRd m) (K ck) (kcell ck) := bigSep_elim (Finset.mem_univ ck)
omit [FloatOps F] in
theorem reached_of (ck : Dev nD × Option (Bool × Fin 15)) :
    (bigSep Finset.univ fun ck : Dev nD × Option (Bool × Fin 15) => (reached ER (kcell ck) 0 : sProp 𝕄))
      ⊢ reached ER (kcell ck) 0 := bigSep_elim (Finset.mem_univ ck)

theorem Known_inv (ck : Dev nD × Option (Bool × Fin 15)) : Known m K ⊢ cellInv ER (ringRd m) (K ck) (kcell ck) := by
  unfold Known records
  iintro ⟨⟨HI, -⟩, -⟩
  iapply (inv_of m K ck); iexact HI
theorem Known_reached (ck : Dev nD × Option (Bool × Fin 15)) : Known m K ⊢ reached ER (kcell ck) 0 := by
  unfold Known records
  iintro ⟨⟨-, HR⟩, -⟩
  iapply (reached_of (F := F) ck); iexact HR
theorem Known_send (c : Dev nD) (h : Fin 15) :
    Known m K ⊢ MayWait (c : Thread nD τ) (.dma (xS false h)) () (Osum c (h.val + 1)) := by
  unfold Known; exact sep_elim_right.trans (mayWait_send c h)
theorem Known_recv (c : Dev nD) (h : Fin 15) :
    Known m K ⊢ MayWait (c : Thread nD τ) (.dma (xS true h)) () (Osum c (h.val + 1)) := by
  unfold Known; exact sep_elim_right.trans (mayWait_recv c h)

/-! ## The states -/

/-- What hop `h` will use: `nxt c`'s rows, this device's places on the hop's two semaphores, the two units of duty it
    pays with, the credit it will receive. -/
def todo (c : Dev nD) (h : Fin 15) : sProp 𝕄 :=
  iprop((∃ f, blkPts (nxt c) (back c h.castSucc) f) ∗ atPos ER (xCell c false h) 0 ∅ 0 ∗ atPos ER (xCell c true h) 0 ∅ 0
    ∗ dutyTok ER (xCell c false h) 0 false ∗ dutyTok ER (xCell (nxt c) true h) 0 false ∗ cred (tallyAt (xCell c true h) () N))
/-- What it leaves: the two semaphores at zero, the block it sent. -/
def done (c : Dev nD) (h : Fin 15) : sProp 𝕄 :=
  iprop(semVal (xCell c false h) 0 ∗ semVal (xCell c true h) 0 ∗ blkPts c (back c h.castSucc) (XF m))
def item (c : Dev nD) (n : ℕ) (h : Fin 15) : sProp 𝕄 := if h.val < n then done m c h else todo c h

def owed (c : Dev nD) (n : ℕ) : sProp 𝕄 := iprop(∃ W, owes (c : Thread nD τ) (Osum c n) W)

/-- Before hop `h`: its block in hand, every other hop done or to do. -/
def StA (c : Dev nD) (h : Fin 16) : sProp 𝕄 :=
  iprop(Known m K ∗ owed c h.val ∗ blkPts c (back c h) (XF m) ∗ bigSep Finset.univ fun j : Fin 15 => item m c h.val j)
def others (c : Dev nD) (h : Fin 15) : sProp 𝕄 := bigSep (Finset.univ.erase h) fun j : Fin 15 => item m c h.val j
/-- The block sent, neither semaphore waited on. -/
def StB (c : Dev nD) (h : Fin 15) : sProp 𝕄 :=
  iprop(Known m K ∗ owed c (h.val + 1) ∗ others m c h ∗ cred (tallyAt (xCell c false h) () N) ∗ atPos ER (xCell c false h) 0 ∅ 0
    ∗ cred (tallyAt (xCell c true h) () N) ∗ atPos ER (xCell c true h) 0 ∅ 0)
/-- The block sent back in hand, the receive semaphore not waited on. -/
def StC (c : Dev nD) (h : Fin 15) : sProp 𝕄 :=
  iprop(Known m K ∗ owed c (h.val + 1) ∗ others m c h ∗ semVal (xCell c false h) 0 ∗ blkPts c (back c h.castSucc) (XF m)
    ∗ cred (tallyAt (xCell c true h) () N) ∗ atPos ER (xCell c true h) 0 ∅ 0)

omit [FloatOps F] in
theorem others_after [FloatOps F] (c : Dev nD) (h : Fin 15) :
    others m c h = bigSep (Finset.univ.erase h) fun j : Fin 15 => item m c (h.val + 1) j := by
  unfold others
  refine bigSep_congr fun j hj => ?_
  have hne : j.val ≠ h.val := fun e => (Finset.mem_erase.mp hj).1 (Fin.ext e)
  unfold item
  by_cases hlt : j.val < h.val
  · rw [if_pos hlt, if_pos (by omega)]
  · rw [if_neg hlt, if_neg (by omega)]

/-! ## The three operations -/

section Ops
variable {α : Type} {Q : α → sProp (MT nD τ sig Unit (Elt F) ℕ UU ℕ)} {k : PUnit → Prog (TpuEff nD τ sig (Elt F) Λ₀ .tc) α} (c : Dev nD) (h : Fin 15)

/-- The block handed on to `nxt c`. -/
theorem wp_forward (n : Dev nD) (hn : n = nxt c) (f : Buf (Elt F) ((nxt c : Thread nD τ).loc cc0_scratch0)) (W : Waits sig Unit)
    (off : Fin 2 → ℕ) (hoff : off = ![256 * (back c h.castSucc).val, 0])
    (inb : ∀ a, off a + S256x1024.size a ≤ S4096x1024.size a)
    (s r : DmaSem sig) (hs : s = xS false h) (hr : r = xS true h)
    {hsc : (fM.slice (Rect.unit (s := S4096x1024) off S256x1024.size inb) (fun _ => rfl) : Memref sig (Dev.tc n : Thread nD τ).2.kind .vmem S256x1024 .f32).view.ref.isScScratch = false}
    {hsrc : (fM.slice (Rect.unit (s := S4096x1024) off S256x1024.size inb) (fun _ => rfl) : Memref sig .tc .vmem S256x1024 .f32).view.WordExact}
    {hdst : (fM.slice (Rect.unit (s := S4096x1024) off S256x1024.size inb) (fun _ => rfl) : Memref sig .tc .vmem S256x1024 .f32).view.WordExact}
    {hsem : DmaTarget.Typed .vmem (.dma r) (.remote (Dev.tc n : Thread nD τ) (fM.slice (Rect.unit (s := S4096x1024) off S256x1024.size inb) (fun _ => rfl) : Memref sig .tc .vmem S256x1024 .f32) (.dma s) hsc)} :
    iprop(cellInv ER (ringRd m) (K (c, some (false, h))) (xCell c false h) ∗ cellInv ER (ringRd m) (K (nxt c, some (true, h))) (xCell (nxt c) true h)
        ∗ blkPts c (back c h.castSucc) (XF m) ∗ blkPts (nxt c) (back c h.castSucc) f
        ∗ owes (c : Thread nD τ) (Osum c h.val) W
        ∗ dutyTok ER (xCell c false h) 0 false ∗ reached ER (xCell c false h) 0
        ∗ dutyTok ER (xCell (nxt c) true h) 0 false ∗ reached ER (xCell (nxt c) true h) 0)
      ⊢ iprop(((cred (tallyAt (xCell c false h) () N) ∗ owes (c : Thread nD τ) (Osum c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (fM.slice (Rect.unit (s := S4096x1024) off S256x1024.size inb) (fun _ => rfl))
                (.remote (Dev.tc n : Thread nD τ) (fM.slice (Rect.unit (s := S4096x1024) off S256x1024.size inb) (fun _ => rfl)) (.dma s) hsc)
                (.dma r) hsrc hdst hsem) k) Q) := by
  subst hn hoff hs hr
  unfold blkPts
  exact Rounds.wp_send_pointsTo 𝒱₀ ER (ringRd m) (c : Thread nD τ) none (c' := (nxt c : Thread nD τ))
    (src := bM (back c h.castSucc)) (dst := bM (back c h.castSucc)) (sS := .dma (xS false h)) (sem := .dma (xS true h)) (fs := XF m) (κ₁ := K (c, some (false, h))) (κ₂ := K (nxt c, some (true, h)))
    (r₁ := 0) (r₂ := 0) (d₁ := false) (d₂ := false) (fd := f)
    (by rw [duties_x]; exact Finset.mem_singleton_self _) (by rw [duties_x]; exact Finset.mem_singleton_self _)
    () () N (by exact credit_eq _ _) (amount_x m c false h false) (amount_x m (nxt c) true h false) (Osum c (h.val + 1)) (Osum_peel c h) (W := W)
    (by rw [payload_send]; exact BI.Entails.refl _)
    (by rw [payload_recv, back_nxt]; exact Entails.of_eq (landed m (nxt c) (back c h.castSucc) f))

theorem step_send (n : Dev nD) (hn : n = nxt c)
    (off : Fin 2 → ℕ) (hoff : off = ![256 * (back c h.castSucc).val, 0])
    (inb : ∀ a, off a + S256x1024.size a ≤ S4096x1024.size a)
    (s r : DmaSem sig) (hs : s = xS false h) (hr : r = xS true h)
    {hsc : (fM.slice (Rect.unit (s := S4096x1024) off S256x1024.size inb) (fun _ => rfl) : Memref sig (Dev.tc n : Thread nD τ).2.kind .vmem S256x1024 .f32).view.ref.isScScratch = false}
    {hsrc : (fM.slice (Rect.unit (s := S4096x1024) off S256x1024.size inb) (fun _ => rfl) : Memref sig .tc .vmem S256x1024 .f32).view.WordExact}
    {hdst : (fM.slice (Rect.unit (s := S4096x1024) off S256x1024.size inb) (fun _ => rfl) : Memref sig .tc .vmem S256x1024 .f32).view.WordExact}
    {hsem : DmaTarget.Typed .vmem (.dma r) (.remote (Dev.tc n : Thread nD τ) (fM.slice (Rect.unit (s := S4096x1024) off S256x1024.size inb) (fun _ => rfl) : Memref sig .tc .vmem S256x1024 .f32) (.dma s) hsc)} :
    StA m K c h.castSucc
      ⊢ iprop((StB m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (fM.slice (Rect.unit (s := S4096x1024) off S256x1024.size inb) (fun _ => rfl))
                (.remote (Dev.tc n : Thread nD τ) (fM.slice (Rect.unit (s := S4096x1024) off S256x1024.size inb) (fun _ => rfl)) (.dma s) hsc)
                (.dma r) hsrc hdst hsem) k) Q) := by
  unfold StA StB owed others
  rw [bigSep_univ_at _ h, show item m c h.castSucc.val h = todo c h from if_neg (Nat.lt_irrefl _)]
  unfold todo
  iintro ⟨#HK, ⟨%W, HO⟩, Hb, ⟨⟨%f, Hn⟩, HaS, HaR, HtS, HtR, HcR⟩, Hoth⟩ Hk
  iapply (wp_forward m K c h n hn f W off hoff inb s r hs hr) $$ [Hb Hn HO HtS HtR]
  · isplitr; · iapply (Known_inv m K (c, some (false, h))); iexact HK
    isplitr; · iapply (Known_inv m K (nxt c, some (true, h))); iexact HK
    isplitl [Hb]; · iexact Hb
    isplitl [Hn]; · iexact Hn
    isplitl [HO]; · iexact HO
    isplitl [HtS]; · iexact HtS
    isplitr; · iapply (Known_reached m K (c, some (false, h))); iexact HK
    isplitl [HtR]; · iexact HtR
    iapply (Known_reached m K (nxt c, some (true, h))); iexact HK
  iintro ⟨HcS, HO⟩
  iapply Hk
  isplitr; · iexact HK
  isplitl [HO]; · iexists W; iexact HO
  isplitl [Hoth]; · iexact Hoth
  isplitl [HcS]; · iexact HcS
  isplitl [HaS]; · iexact HaS
  isplitl [HcR]; · iexact HcR
  iexact HaR

theorem step_sent (s : DmaSem sig) (hs : s = xS false h)
    {src dst : Memref sig .tc .vmem S256x1024 .f32} (hN : dst.view.dmaCredit = N)
    {hsrc : src.view.WordExact} {hdst : dst.view.WordExact} :
    StB m K c h
      ⊢ iprop((StC m K c h -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s src dst hsrc hdst) k) Q) := by
  subst hs
  unfold StB StC owed
  iintro ⟨#HK, ⟨%W, HO⟩, Hoth, HcS, HaS, HcR, HaR⟩ Hk
  iapply (Rounds.wp_wait_rest_token 𝒱₀ ER (ringRd m) (c : Thread nD τ) none (κ := K (c, some (false, h)))
      (wpE_waitDma2_eq 𝒱₀ (c : Thread nD τ) none Set.univ) (Set.mem_univ _) () (O := Osum c (h.val + 1)) (W := W) (R := 0) (m := 0) (T := ∅)
      (by rw [Nat.zero_add, expect_x, hN])) $$ [HcS HO HaS]
  · isplitr; · iapply (Known_inv m K (c, some (false, h))); iexact HK
    isplitl [HcS]; · rw [hN]; iexact HcS
    isplitl [HO]; · iexact HO
    isplitr; · iapply (Known_send m K c h); iexact HK
    iexact HaS
  iintro ⟨HO, HaS, -, Hpay⟩
  ihave Hb := (Entails.of_eq (rest_send m c h)) $$ Hpay
  imod (Rounds.cell_close ER (ringRd m) (Set.mem_univ (K (c, some (false, h)))) (fun h => h) (R := 0 + 1) (duties_later m (xCell c false h))) $$ [HaS] with Hz
  · isplitr; · iapply (Known_inv m K (c, some (false, h))); iexact HK
    iexact HaS
  iapply Hk
  isplitr; · iexact HK
  isplitl [HO]; · iexists _; iexact HO
  isplitl [Hoth]; · iexact Hoth
  isplitl [Hz]; · iexact Hz
  isplitl [Hb]; · iexact Hb
  isplitl [HcR]; · iexact HcR
  iexact HaR

theorem step_recv (r : DmaSem sig) (hr : r = xS true h)
    {src dst : Memref sig .tc .vmem S256x1024 .f32} (hN : dst.view.dmaCredit = N)
    {hsrc : src.view.WordExact} {hdst : dst.view.WordExact} :
    StC m K c h
      ⊢ iprop((StA m K c h.succ -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 r src dst hsrc hdst) k) Q) := by
  subst hr
  unfold StA StC owed
  rw [others_after, bigSep_univ_at _ h, show item m c h.succ.val h = done m c h from if_pos (by rw [Fin.val_succ]; omega), show h.succ.val = h.val + 1 from rfl]
  unfold done
  iintro ⟨#HK, ⟨%W, HO⟩, Hoth, HzS, Hb, HcR, HaR⟩ Hk
  iapply (Rounds.wp_wait_rest_token 𝒱₀ ER (ringRd m) (c : Thread nD τ) none (κ := K (c, some (true, h)))
      (wpE_waitDma2_eq 𝒱₀ (c : Thread nD τ) none Set.univ) (Set.mem_univ _) () (O := Osum c (h.val + 1)) (W := W) (R := 0) (m := 0) (T := ∅)
      (by rw [Nat.zero_add, expect_x, hN])) $$ [HcR HO HaR]
  · isplitr; · iapply (Known_inv m K (c, some (true, h))); iexact HK
    isplitl [HcR]; · rw [hN]; iexact HcR
    isplitl [HO]; · iexact HO
    isplitr; · iapply (Known_recv m K c h); iexact HK
    iexact HaR
  iintro ⟨HO, HaR, -, Hpay⟩
  ihave Hb' := (Entails.of_eq (rest_recv m c h)) $$ Hpay
  imod (Rounds.cell_close ER (ringRd m) (Set.mem_univ (K (c, some (true, h)))) (fun h => h) (R := 0 + 1) (duties_later m (xCell c true h))) $$ [HaR] with Hz
  · isplitr; · iapply (Known_inv m K (c, some (true, h))); iexact HK
    iexact HaR
  iapply Hk
  isplitr; · iexact HK
  isplitl [HO]; · iexists _; iexact HO
  isplitl [Hb']; · iexact Hb'
  isplitr [Hoth]
  · isplitl [HzS]; · iexact HzS
    isplitl [Hz]; · iexact Hz
    iexact Hb
  iexact Hoth

end Ops

end Cert.Attn

end
-- ==== Proof.Gather.lean ====
/-
The gather, part by part: each piece of the kernel's text that moves rows round the ring takes device `c` from one
hop's state to another's.
-/
module

public import proofs.«01_k».proof.Proof.Hops

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 15) → ℕ) (c : Dev nD)
variable (arg0 : Memref sig .tc .vmem S1x256x1024 .f32) (harg0 : arg0.IsWhole)
  (arg1 : Memref sig .tc .vmem S1024x1024 .f32) (harg1 : arg1.IsWhole) (arg2 : Memref sig .tc .vmem S1024x1024 .f32) (harg2 : arg2.IsWhole)
  (arg3 : Memref sig .tc .vmem S1024x1024 .f32) (harg3 : arg3.IsWhole) (arg4 : Memref sig .tc .vmem S4096x1024 .f32) (harg4 : arg4.IsWhole)

theorem part3 (v2 : BitVec 32) (v13 : BitVec 32) (v59 : BitVec 32) {Q : (Σ' (v92 : BitVec 32) (v94 : BitVec 32) (c16_i32_67 : BitVec 32), BitVec 1) → sProp 𝕄} :
    StA m K c 0
      ⊢ iprop((∀ v, StA m K c 1 -∗ Q v)
          -∗ wp frame (wpE (defs₀ (F := F)) 𝒱₀ (c : Thread nD τ) none) Set.univ
              (k0_part3 arg0 harg0 arg1 harg1 arg2 harg2 arg3 harg3 arg4 harg4 fM (Memref.isWhole_whole _) cc0_scratch1 cc0_scratch2 c v2 v13 v59) Q) := by
  show StA m K c (Fin.castSucc 0) ⊢ iprop((∀ v, StA m K c (Fin.succ 0) -∗ Q v) -∗ _)
  rw [k0_part3_eq_skeleton]; unfold k0_part3_skel
  simp only [Prog.lift, Prog.bind_op, Prog.bind_ret, Prog.pure_eq_ret]
  iintro H Hk
  iapply (step_send m K c 0 _ (Fin.ext (by revert c; decide)) _ (off2_eq c 0) _ _ _ rfl rfl) $$ H; iintro H
  iapply (step_sent m K c 0 _ rfl (by exact credit_eq _ _)) $$ H; iintro H
  iapply (step_recv m K c 0 _ rfl (by exact credit_eq _ _)) $$ H; iintro H
  rw [wp_ret]; imodintro; iapply Hk; iexact H

theorem part4 (v13 : BitVec 32) (v24 : BitVec 32) (v92 : BitVec 32) (v94 : BitVec 32) (c16_i32_67 : BitVec 32) (v95 : BitVec 1) {Q : (BitVec 32) → sProp 𝕄} :
    StA m K c 1
      ⊢ iprop((∀ v, StA m K c 2 -∗ Q v)
          -∗ wp frame (wpE (defs₀ (F := F)) 𝒱₀ (c : Thread nD τ) none) Set.univ
              (k0_part4 arg0 harg0 arg1 harg1 arg2 harg2 arg3 harg3 arg4 harg4 fM (Memref.isWhole_whole _) cc0_scratch1 cc0_scratch2 c v13 v24 v92 v94 c16_i32_67 v95) Q) := by
  show StA m K c (Fin.castSucc 1) ⊢ iprop((∀ v, StA m K c (Fin.succ 1) -∗ Q v) -∗ _)
  rw [k0_part4_eq_skeleton]; unfold k0_part4_skel
  simp only [Prog.lift, Prog.bind_op, Prog.bind_ret, Prog.pure_eq_ret]
  iintro H Hk
  iapply (step_send m K c 1 _ (Fin.ext (by revert c; decide)) _ (off2_eq c 1) _ _ _ rfl rfl) $$ H; iintro H
  iapply (step_sent m K c 1 _ rfl (by exact credit_eq _ _)) $$ H; iintro H
  iapply (step_recv m K c 1 _ rfl (by exact credit_eq _ _)) $$ H; iintro H
  rw [wp_ret]; imodintro; iapply Hk; iexact H

theorem part5 (v2 : BitVec 32) (v24 : BitVec 32) (c2_i32_94 : BitVec 32) {Q : (BitVec 32) → sProp 𝕄} :
    StA m K c 2
      ⊢ iprop((∀ v, StB m K c 2 -∗ Q v)
          -∗ wp frame (wpE (defs₀ (F := F)) 𝒱₀ (c : Thread nD τ) none) Set.univ
              (k0_part5 arg0 harg0 arg1 harg1 arg2 harg2 arg3 harg3 arg4 harg4 fM (Memref.isWhole_whole _) cc0_scratch1 cc0_scratch2 c v2 v24 c2_i32_94) Q) := by
  show StA m K c (Fin.castSucc 2) ⊢ iprop((∀ v, StB m K c 2 -∗ Q v) -∗ _)
  rw [k0_part5_eq_skeleton]; unfold k0_part5_skel
  simp only [Prog.lift, Prog.bind_op, Prog.bind_ret, Prog.pure_eq_ret]
  iintro H Hk
  iapply (step_send m K c 2 _ (Fin.ext (by revert c; decide)) _ (off2_eq c 2) _ _ _ rfl rfl) $$ H; iintro H
  rw [wp_ret]; imodintro; iapply Hk; iexact H

theorem part6 (v2 : BitVec 32) (v13 : BitVec 32) (v149 : BitVec 32) {Q : (Σ' (v182 : BitVec 32) (v187 : BitVec 32) (v192 : BitVec 1), BitVec 32) → sProp 𝕄} :
    StB m K c 2
      ⊢ iprop((∀ v, StA m K c 3 -∗ Q v)
          -∗ wp frame (wpE (defs₀ (F := F)) 𝒱₀ (c : Thread nD τ) none) Set.univ
              (k0_part6 arg0 harg0 arg1 harg1 arg2 harg2 arg3 harg3 arg4 harg4 fM (Memref.isWhole_whole _) cc0_scratch1 cc0_scratch2 c v2 v13 v149) Q) := by
  show StB m K c 2 ⊢ iprop((∀ v, StA m K c (Fin.succ 2) -∗ Q v) -∗ _)
  rw [k0_part6_eq_skeleton]; unfold k0_part6_skel
  simp only [Prog.lift, Prog.bind_op, Prog.bind_ret, Prog.pure_eq_ret]
  iintro H Hk
  iapply (step_sent m K c 2 _ rfl (by exact credit_eq _ _)) $$ H; iintro H
  iapply (step_recv m K c 2 _ rfl (by exact credit_eq _ _)) $$ H; iintro H
  rw [wp_ret]; imodintro; iapply Hk; iexact H

theorem part7 (v2 : BitVec 32) (v13 : BitVec 32) (v24 : BitVec 32) (v182 : BitVec 32) (v187 : BitVec 32) (v192 : BitVec 1) (v193 : BitVec 32) {Q : (Σ' (v219 : BitVec 32) (v220 : BitVec 32) (v221 : BitVec 1) (v222 : BitVec 1), BitVec 32) → sProp 𝕄} :
    StA m K c 3
      ⊢ iprop((∀ v, StA m K c 4 -∗ Q v)
          -∗ wp frame (wpE (defs₀ (F := F)) 𝒱₀ (c : Thread nD τ) none) Set.univ
              (k0_part7 arg0 harg0 arg1 harg1 arg2 harg2 arg3 harg3 arg4 harg4 fM (Memref.isWhole_whole _) cc0_scratch1 cc0_scratch2 c v2 v13 v24 v182 v187 v192 v193) Q) := by
  show StA m K c (Fin.castSucc 3) ⊢ iprop((∀ v, StA m K c (Fin.succ 3) -∗ Q v) -∗ _)
  rw [k0_part7_eq_skeleton]; unfold k0_part7_skel
  simp only [Prog.lift, Prog.bind_op, Prog.bind_ret, Prog.pure_eq_ret]
  iintro H Hk
  iapply (step_send m K c 3 _ (Fin.ext (by revert c; decide)) _ (off2_eq c 3) _ _ _ rfl rfl) $$ H; iintro H
  iapply (step_sent m K c 3 _ rfl (by exact credit_eq _ _)) $$ H; iintro H
  iapply (step_recv m K c 3 _ rfl (by exact credit_eq _ _)) $$ H; iintro H
  rw [wp_ret]; imodintro; iapply Hk; iexact H

theorem part8 (v2 : BitVec 32) (v24 : BitVec 32) (v219 : BitVec 32) (v220 : BitVec 32) (v221 : BitVec 1) (v222 : BitVec 1) (c0_i32_170 : BitVec 32) {Q : (PUnit) → sProp 𝕄} :
    StA m K c 4
      ⊢ iprop((∀ v, StC m K c 4 -∗ Q v)
          -∗ wp frame (wpE (defs₀ (F := F)) 𝒱₀ (c : Thread nD τ) none) Set.univ
              (k0_part8 arg0 harg0 arg1 harg1 arg2 harg2 arg3 harg3 arg4 harg4 fM (Memref.isWhole_whole _) cc0_scratch1 cc0_scratch2 c v2 v24 v219 v220 v221 v222 c0_i32_170) Q) := by
  show StA m K c (Fin.castSucc 4) ⊢ iprop((∀ v, StC m K c 4 -∗ Q v) -∗ _)
  rw [k0_part8_eq_skeleton]; unfold k0_part8_skel
  simp only [Prog.lift, Prog.bind_op, Prog.bind_ret, Prog.pure_eq_ret]
  iintro H Hk
  iapply (step_send m K c 4 _ (Fin.ext (by revert c; decide)) _ (off2_eq c 4) _ _ _ rfl rfl) $$ H; iintro H
  iapply (step_sent m K c 4 _ rfl (by exact credit_eq _ _)) $$ H; iintro H
  rw [wp_ret]; imodintro; iapply Hk; iexact H

theorem part9 (v2 : BitVec 32) (v13 : BitVec 32) (v24 : BitVec 32) {Q : (BitVec 32) → sProp 𝕄} :
    StC m K c 4
      ⊢ iprop((∀ v, StA m K c 5 -∗ Q v)
          -∗ wp frame (wpE (defs₀ (F := F)) 𝒱₀ (c : Thread nD τ) none) Set.univ
              (k0_part9 arg0 harg0 arg1 harg1 arg2 harg2 arg3 harg3 arg4 harg4 fM (Memref.isWhole_whole _) cc0_scratch1 cc0_scratch2 c v2 v13 v24) Q) := by
  show StC m K c 4 ⊢ iprop((∀ v, StA m K c (Fin.succ 4) -∗ Q v) -∗ _)
  rw [k0_part9_eq_skeleton]; unfold k0_part9_skel
  simp only [Prog.lift, Prog.bind_op, Prog.bind_ret, Prog.pure_eq_ret]
  iintro H Hk
  iapply (step_recv m K c 4 _ rfl (by exact credit_eq _ _)) $$ H; iintro H
  rw [wp_ret]; imodintro; iapply Hk; iexact H

theorem part10 (v2 : BitVec 32) (v13 : BitVec 32) (v284 : BitVec 32) {Q : (Σ' (v317 : BitVec 32) (v319 : BitVec 32) (c16_i32_243 : BitVec 32), BitVec 1) → sProp 𝕄} :
    StA m K c 5
      ⊢ iprop((∀ v, StA m K c 6 -∗ Q v)
          -∗ wp frame (wpE (defs₀ (F := F)) 𝒱₀ (c : Thread nD τ) none) Set.univ
              (k0_part10 arg0 harg0 arg1 harg1 arg2 harg2 arg3 harg3 arg4 harg4 fM (Memref.isWhole_whole _) cc0_scratch1 cc0_scratch2 c v2 v13 v284) Q) := by
  show StA m K c (Fin.castSucc 5) ⊢ iprop((∀ v, StA m K c (Fin.succ 5) -∗ Q v) -∗ _)
  rw [k0_part10_eq_skeleton]; unfold k0_part10_skel
  simp only [Prog.lift, Prog.bind_op, Prog.bind_ret, Prog.pure_eq_ret]
  iintro H Hk
  iapply (step_send m K c 5 _ (Fin.ext (by revert c; decide)) _ (off2_eq c 5) _ _ _ rfl rfl) $$ H; iintro H
  iapply (step_sent m K c 5 _ rfl (by exact credit_eq _ _)) $$ H; iintro H
  iapply (step_recv m K c 5 _ rfl (by exact credit_eq _ _)) $$ H; iintro H
  rw [wp_ret]; imodintro; iapply Hk; iexact H

theorem part11 (v13 : BitVec 32) (v24 : BitVec 32) (v317 : BitVec 32) (v319 : BitVec 32) (c16_i32_243 : BitVec 32) (v320 : BitVec 1) {Q : (BitVec 32) → sProp 𝕄} :
    StA m K c 6
      ⊢ iprop((∀ v, StA m K c 7 -∗ Q v)
          -∗ wp frame (wpE (defs₀ (F := F)) 𝒱₀ (c : Thread nD τ) none) Set.univ
              (k0_part11 arg0 harg0 arg1 harg1 arg2 harg2 arg3 harg3 arg4 harg4 fM (Memref.isWhole_whole _) cc0_scratch1 cc0_scratch2 c v13 v24 v317 v319 c16_i32_243 v320) Q) := by
  show StA m K c (Fin.castSucc 6) ⊢ iprop((∀ v, StA m K c (Fin.succ 6) -∗ Q v) -∗ _)
  rw [k0_part11_eq_skeleton]; unfold k0_part11_skel
  simp only [Prog.lift, Prog.bind_op, Prog.bind_ret, Prog.pure_eq_ret]
  iintro H Hk
  iapply (step_send m K c 6 _ (Fin.ext (by revert c; decide)) _ (off2_eq c 6) _ _ _ rfl rfl) $$ H; iintro H
  iapply (step_sent m K c 6 _ rfl (by exact credit_eq _ _)) $$ H; iintro H
  iapply (step_recv m K c 6 _ rfl (by exact credit_eq _ _)) $$ H; iintro H
  rw [wp_ret]; imodintro; iapply Hk; iexact H

theorem part12 (v2 : BitVec 32) (v24 : BitVec 32) (c7_i32 : BitVec 32) {Q : (BitVec 32) → sProp 𝕄} :
    StA m K c 7
      ⊢ iprop((∀ v, StB m K c 7 -∗ Q v)
          -∗ wp frame (wpE (defs₀ (F := F)) 𝒱₀ (c : Thread nD τ) none) Set.univ
              (k0_part12 arg0 harg0 arg1 harg1 arg2 harg2 arg3 harg3 arg4 harg4 fM (Memref.isWhole_whole _) cc0_scratch1 cc0_scratch2 c v2 v24 c7_i32) Q) := by
  show StA m K c (Fin.castSucc 7) ⊢ iprop((∀ v, StB m K c 7 -∗ Q v) -∗ _)
  rw [k0_part12_eq_skeleton]; unfold k0_part12_skel
  simp only [Prog.lift, Prog.bind_op, Prog.bind_ret, Prog.pure_eq_ret]
  iintro H Hk
  iapply (step_send m K c 7 _ (Fin.ext (by revert c; decide)) _ (off2_eq c 7) _ _ _ rfl rfl) $$ H; iintro H
  rw [wp_ret]; imodintro; iapply Hk; iexact H

theorem part13 (v2 : BitVec 32) (v13 : BitVec 32) (v374 : BitVec 32) {Q : (Σ' (v407 : BitVec 32) (v412 : BitVec 32) (v417 : BitVec 1), BitVec 32) → sProp 𝕄} :
    StB m K c 7
      ⊢ iprop((∀ v, StA m K c 8 -∗ Q v)
          -∗ wp frame (wpE (defs₀ (F := F)) 𝒱₀ (c : Thread nD τ) none) Set.univ
              (k0_part13 arg0 harg0 arg1 harg1 arg2 harg2 arg3 harg3 arg4 harg4 fM (Memref.isWhole_whole _) cc0_scratch1 cc0_scratch2 c v2 v13 v374) Q) := by
  show StB m K c 7 ⊢ iprop((∀ v, StA m K c (Fin.succ 7) -∗ Q v) -∗ _)
  rw [k0_part13_eq_skeleton]; unfold k0_part13_skel
  simp only [Prog.lift, Prog.bind_op, Prog.bind_ret, Prog.pure_eq_ret]
  iintro H Hk
  iapply (step_sent m K c 7 _ rfl (by exact credit_eq _ _)) $$ H; iintro H
  iapply (step_recv m K c 7 _ rfl (by exact credit_eq _ _)) $$ H; iintro H
  rw [wp_ret]; imodintro; iapply Hk; iexact H

theorem part14 (v2 : BitVec 32) (v13 : BitVec 32) (v24 : BitVec 32) (v407 : BitVec 32) (v412 : BitVec 32) (v417 : BitVec 1) (v418 : BitVec 32) {Q : (Σ' (v444 : BitVec 32) (v445 : BitVec 32) (v446 : BitVec 1) (v447 : BitVec 1), BitVec 32) → sProp 𝕄} :
    StA m K c 8
      ⊢ iprop((∀ v, StA m K c 9 -∗ Q v)
          -∗ wp frame (wpE (defs₀ (F := F)) 𝒱₀ (c : Thread nD τ) none) Set.univ
              (k0_part14 arg0 harg0 arg1 harg1 arg2 harg2 arg3 harg3 arg4 harg4 fM (Memref.isWhole_whole _) cc0_scratch1 cc0_scratch2 c v2 v13 v24 v407 v412 v417 v418) Q) := by
  show StA m K c (Fin.castSucc 8) ⊢ iprop((∀ v, StA m K c (Fin.succ 8) -∗ Q v) -∗ _)
  rw [k0_part14_eq_skeleton]; unfold k0_part14_skel
  simp only [Prog.lift, Prog.bind_op, Prog.bind_ret, Prog.pure_eq_ret]
  iintro H Hk
  iapply (step_send m K c 8 _ (Fin.ext (by revert c; decide)) _ (off2_eq c 8) _ _ _ rfl rfl) $$ H; iintro H
  iapply (step_sent m K c 8 _ rfl (by exact credit_eq _ _)) $$ H; iintro H
  iapply (step_recv m K c 8 _ rfl (by exact credit_eq _ _)) $$ H; iintro H
  rw [wp_ret]; imodintro; iapply Hk; iexact H

theorem part15 (v2 : BitVec 32) (v24 : BitVec 32) (v444 : BitVec 32) (v445 : BitVec 32) (v446 : BitVec 1) (v447 : BitVec 1) (c0_i32_345 : BitVec 32) {Q : (PUnit) → sProp 𝕄} :
    StA m K c 9
      ⊢ iprop((∀ v, StC m K c 9 -∗ Q v)
          -∗ wp frame (wpE (defs₀ (F := F)) 𝒱₀ (c : Thread nD τ) none) Set.univ
              (k0_part15 arg0 harg0 arg1 harg1 arg2 harg2 arg3 harg3 arg4 harg4 fM (Memref.isWhole_whole _) cc0_scratch1 cc0_scratch2 c v2 v24 v444 v445 v446 v447 c0_i32_345) Q) := by
  show StA m K c (Fin.castSucc 9) ⊢ iprop((∀ v, StC m K c 9 -∗ Q v) -∗ _)
  rw [k0_part15_eq_skeleton]; unfold k0_part15_skel
  simp only [Prog.lift, Prog.bind_op, Prog.bind_ret, Prog.pure_eq_ret]
  iintro H Hk
  iapply (step_send m K c 9 _ (Fin.ext (by revert c; decide)) _ (off2_eq c 9) _ _ _ rfl rfl) $$ H; iintro H
  iapply (step_sent m K c 9 _ rfl (by exact credit_eq _ _)) $$ H; iintro H
  rw [wp_ret]; imodintro; iapply Hk; iexact H

theorem part16 (v2 : BitVec 32) (v13 : BitVec 32) (v24 : BitVec 32) {Q : (BitVec 32) → sProp 𝕄} :
    StC m K c 9
      ⊢ iprop((∀ v, StA m K c 10 -∗ Q v)
          -∗ wp frame (wpE (defs₀ (F := F)) 𝒱₀ (c : Thread nD τ) none) Set.univ
              (k0_part16 arg0 harg0 arg1 harg1 arg2 harg2 arg3 harg3 arg4 harg4 fM (Memref.isWhole_whole _) cc0_scratch1 cc0_scratch2 c v2 v13 v24) Q) := by
  show StC m K c 9 ⊢ iprop((∀ v, StA m K c (Fin.succ 9) -∗ Q v) -∗ _)
  rw [k0_part16_eq_skeleton]; unfold k0_part16_skel
  simp only [Prog.lift, Prog.bind_op, Prog.bind_ret, Prog.pure_eq_ret]
  iintro H Hk
  iapply (step_recv m K c 9 _ rfl (by exact credit_eq _ _)) $$ H; iintro H
  rw [wp_ret]; imodintro; iapply Hk; iexact H

theorem part17 (v2 : BitVec 32) (v13 : BitVec 32) (v509 : BitVec 32) {Q : (Σ' (v542 : BitVec 32) (v544 : BitVec 32) (c16_i32_418 : BitVec 32), BitVec 1) → sProp 𝕄} :
    StA m K c 10
      ⊢ iprop((∀ v, StA m K c 11 -∗ Q v)
          -∗ wp frame (wpE (defs₀ (F := F)) 𝒱₀ (c : Thread nD τ) none) Set.univ
              (k0_part17 arg0 harg0 arg1 harg1 arg2 harg2 arg3 harg3 arg4 harg4 fM (Memref.isWhole_whole _) cc0_scratch1 cc0_scratch2 c v2 v13 v509) Q) := by
  show StA m K c (Fin.castSucc 10) ⊢ iprop((∀ v, StA m K c (Fin.succ 10) -∗ Q v) -∗ _)
  rw [k0_part17_eq_skeleton]; unfold k0_part17_skel
  simp only [Prog.lift, Prog.bind_op, Prog.bind_ret, Prog.pure_eq_ret]
  iintro H Hk
  iapply (step_send m K c 10 _ (Fin.ext (by revert c; decide)) _ (off2_eq c 10) _ _ _ rfl rfl) $$ H; iintro H
  iapply (step_sent m K c 10 _ rfl (by exact credit_eq _ _)) $$ H; iintro H
  iapply (step_recv m K c 10 _ rfl (by exact credit_eq _ _)) $$ H; iintro H
  rw [wp_ret]; imodintro; iapply Hk; iexact H

theorem part18 (v13 : BitVec 32) (v24 : BitVec 32) (v542 : BitVec 32) (v544 : BitVec 32) (c16_i32_418 : BitVec 32) (v545 : BitVec 1) {Q : (BitVec 32) → sProp 𝕄} :
    StA m K c 11
      ⊢ iprop((∀ v, StA m K c 12 -∗ Q v)
          -∗ wp frame (wpE (defs₀ (F := F)) 𝒱₀ (c : Thread nD τ) none) Set.univ
              (k0_part18 arg0 harg0 arg1 harg1 arg2 harg2 arg3 harg3 arg4 harg4 fM (Memref.isWhole_whole _) cc0_scratch1 cc0_scratch2 c v13 v24 v542 v544 c16_i32_418 v545) Q) := by
  show StA m K c (Fin.castSucc 11) ⊢ iprop((∀ v, StA m K c (Fin.succ 11) -∗ Q v) -∗ _)
  rw [k0_part18_eq_skeleton]; unfold k0_part18_skel
  simp only [Prog.lift, Prog.bind_op, Prog.bind_ret, Prog.pure_eq_ret]
  iintro H Hk
  iapply (step_send m K c 11 _ (Fin.ext (by revert c; decide)) _ (off2_eq c 11) _ _ _ rfl rfl) $$ H; iintro H
  iapply (step_sent m K c 11 _ rfl (by exact credit_eq _ _)) $$ H; iintro H
  iapply (step_recv m K c 11 _ rfl (by exact credit_eq _ _)) $$ H; iintro H
  rw [wp_ret]; imodintro; iapply Hk; iexact H

theorem part19 (v2 : BitVec 32) (v24 : BitVec 32) (c12_i32 : BitVec 32) {Q : (BitVec 32) → sProp 𝕄} :
    StA m K c 12
      ⊢ iprop((∀ v, StB m K c 12 -∗ Q v)
          -∗ wp frame (wpE (defs₀ (F := F)) 𝒱₀ (c : Thread nD τ) none) Set.univ
              (k0_part19 arg0 harg0 arg1 harg1 arg2 harg2 arg3 harg3 arg4 harg4 fM (Memref.isWhole_whole _) cc0_scratch1 cc0_scratch2 c v2 v24 c12_i32) Q) := by
  show StA m K c (Fin.castSucc 12) ⊢ iprop((∀ v, StB m K c 12 -∗ Q v) -∗ _)
  rw [k0_part19_eq_skeleton]; unfold k0_part19_skel
  simp only [Prog.lift, Prog.bind_op, Prog.bind_ret, Prog.pure_eq_ret]
  iintro H Hk
  iapply (step_send m K c 12 _ (Fin.ext (by revert c; decide)) _ (off2_eq c 12) _ _ _ rfl rfl) $$ H; iintro H
  rw [wp_ret]; imodintro; iapply Hk; iexact H

theorem part20 (v2 : BitVec 32) (v13 : BitVec 32) (v599 : BitVec 32) {Q : (Σ' (v632 : BitVec 32) (v637 : BitVec 32) (v642 : BitVec 1), BitVec 32) → sProp 𝕄} :
    StB m K c 12
      ⊢ iprop((∀ v, StA m K c 13 -∗ Q v)
          -∗ wp frame (wpE (defs₀ (F := F)) 𝒱₀ (c : Thread nD τ) none) Set.univ
              (k0_part20 arg0 harg0 arg1 harg1 arg2 harg2 arg3 harg3 arg4 harg4 fM (Memref.isWhole_whole _) cc0_scratch1 cc0_scratch2 c v2 v13 v599) Q) := by
  show StB m K c 12 ⊢ iprop((∀ v, StA m K c (Fin.succ 12) -∗ Q v) -∗ _)
  rw [k0_part20_eq_skeleton]; unfold k0_part20_skel
  simp only [Prog.lift, Prog.bind_op, Prog.bind_ret, Prog.pure_eq_ret]
  iintro H Hk
  iapply (step_sent m K c 12 _ rfl (by exact credit_eq _ _)) $$ H; iintro H
  iapply (step_recv m K c 12 _ rfl (by exact credit_eq _ _)) $$ H; iintro H
  rw [wp_ret]; imodintro; iapply Hk; iexact H

theorem part21 (v2 : BitVec 32) (v13 : BitVec 32) (v24 : BitVec 32) (v632 : BitVec 32) (v637 : BitVec 32) (v642 : BitVec 1) (v643 : BitVec 32) {Q : (Σ' (v669 : BitVec 32) (v670 : BitVec 32) (v671 : BitVec 1) (v672 : BitVec 1), BitVec 32) → sProp 𝕄} :
    StA m K c 13
      ⊢ iprop((∀ v, StA m K c 14 -∗ Q v)
          -∗ wp frame (wpE (defs₀ (F := F)) 𝒱₀ (c : Thread nD τ) none) Set.univ
              (k0_part21 arg0 harg0 arg1 harg1 arg2 harg2 arg3 harg3 arg4 harg4 fM (Memref.isWhole_whole _) cc0_scratch1 cc0_scratch2 c v2 v13 v24 v632 v637 v642 v643) Q) := by
  show StA m K c (Fin.castSucc 13) ⊢ iprop((∀ v, StA m K c (Fin.succ 13) -∗ Q v) -∗ _)
  rw [k0_part21_eq_skeleton]; unfold k0_part21_skel
  simp only [Prog.lift, Prog.bind_op, Prog.bind_ret, Prog.pure_eq_ret]
  iintro H Hk
  iapply (step_send m K c 13 _ (Fin.ext (by revert c; decide)) _ (off2_eq c 13) _ _ _ rfl rfl) $$ H; iintro H
  iapply (step_sent m K c 13 _ rfl (by exact credit_eq _ _)) $$ H; iintro H
  iapply (step_recv m K c 13 _ rfl (by exact credit_eq _ _)) $$ H; iintro H
  rw [wp_ret]; imodintro; iapply Hk; iexact H

theorem part22 (v2 : BitVec 32) (v24 : BitVec 32) (v669 : BitVec 32) (v670 : BitVec 32) (v671 : BitVec 1) (v672 : BitVec 1) (c0_i32_520 : BitVec 32) {Q : (PUnit) → sProp 𝕄} :
    StA m K c 14
      ⊢ iprop((∀ v, StC m K c 14 -∗ Q v)
          -∗ wp frame (wpE (defs₀ (F := F)) 𝒱₀ (c : Thread nD τ) none) Set.univ
              (k0_part22 arg0 harg0 arg1 harg1 arg2 harg2 arg3 harg3 arg4 harg4 fM (Memref.isWhole_whole _) cc0_scratch1 cc0_scratch2 c v2 v24 v669 v670 v671 v672 c0_i32_520) Q) := by
  show StA m K c (Fin.castSucc 14) ⊢ iprop((∀ v, StC m K c 14 -∗ Q v) -∗ _)
  rw [k0_part22_eq_skeleton]; unfold k0_part22_skel
  simp only [Prog.lift, Prog.bind_op, Prog.bind_ret, Prog.pure_eq_ret]
  iintro H Hk
  iapply (step_send m K c 14 _ (Fin.ext (by revert c; decide)) _ (off2_eq c 14) _ _ _ rfl rfl) $$ H; iintro H
  iapply (step_sent m K c 14 _ rfl (by exact credit_eq _ _)) $$ H; iintro H
  rw [wp_ret]; imodintro; iapply Hk; iexact H

end Cert.Attn

end
-- ==== Proof.Start.lean ====
/-
Before the first hop: the barrier, which lends the rows to the neighbour behind, and the store of the device's own block.
After the last: the whole `x` in hand.
-/
module

public import proofs.«01_k».proof.Proof.Hops

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 15) → ℕ) (c : Dev nD)

/-- What a hop will use besides the rows lent to it. -/
def half (h : Fin 15) : sProp 𝕄 :=
  iprop(atPos ER (xCell c false h) 0 ∅ 0 ∗ atPos ER (xCell c true h) 0 ∅ 0
    ∗ dutyTok ER (xCell c false h) 0 false ∗ dutyTok ER (xCell (nxt c) true h) 0 false ∗ cred (tallyAt (xCell c true h) () N))

omit [FloatOps F] in
theorem todo_all : (bigSep Finset.univ fun h : Fin 15 => (todo c h : sProp 𝕄)) = iprop(lent c ∗ bigSep Finset.univ fun h : Fin 15 => half c h) := by
  unfold lent; rw [← bigSep_sep']; exact bigSep_congr fun h _ => rfl

/-- The rows a device lends are its own buffer's, all but its own block. -/
theorem lend (f : Buf (Elt F) ((c : Thread nD τ).loc cc0_scratch0)) :
    (bigSep Finset.univ fun h : Fin 15 => (blkPts c (back c h.succ) f : sProp 𝕄)) ⊢ lent (prv c) := by
  have h : ∀ j : Fin 15, (blkPts c (back c j.succ) f : sProp 𝕄) ⊢ iprop(∃ f, blkPts (nxt (prv c)) (back (prv c) j.castSucc) f) := by
    intro j
    rw [nxt_prv, back_prv]
    iintro H; iexists f; iexact H
  unfold lent
  exact bigSep_mono fun j _ => h j

/-- A device's places on the barrier: the units it pays to its two neighbours, its wait, the credit it waits for. -/
def gate : sProp 𝕄 :=
  iprop(dutyTok ER (barCell (prv c)) 0 true ∗ dutyTok ER (barCell (nxt c)) 0 false ∗ atPos ER (barCell c) 0 ∅ 0
    ∗ cred (tallyAt (barCell c) () 2))

/-- At the start. -/
def St0 : sProp 𝕄 :=
  iprop(Known m K ∗ (∃ W, owes (c : Thread nD τ) (O₀ c) W) ∗ gate c ∗ (bigSep Finset.univ fun h : Fin 15 => half c h)
    ∗ ∃ f, ((c : Thread nD τ).loc cc0_scratch0) ↦{fullShare} f)
/-- Past the barrier. -/
def St1 : sProp 𝕄 :=
  iprop(Known m K ∗ owed c 0 ∗ semVal (barCell c) 0 ∗ (∃ f, blkPts c c f) ∗ bigSep Finset.univ fun h : Fin 15 => todo c h)

/-- The device's block of `x`, as staged. -/
def xPts : sProp 𝕄 := ((c : Thread nD τ).loc cc0_stg0_0) ↦{fullShare} xstg m c

theorem Known_bar : Known m K ⊢ MayWait (c : Thread nD τ) (.reg barS) () (Osum c 0) := by
  unfold Known; exact sep_elim_right.trans (mayWait_ring c (.reg barS) 0 (by show 1 < 2; omega))

variable (arg0 : Memref sig .tc .vmem S1x256x1024 .f32) (harg0 : arg0.IsWhole)
  (arg1 : Memref sig .tc .vmem S1024x1024 .f32) (harg1 : arg1.IsWhole) (arg2 : Memref sig .tc .vmem S1024x1024 .f32) (harg2 : arg2.IsWhole)
  (arg3 : Memref sig .tc .vmem S1024x1024 .f32) (harg3 : arg3.IsWhole) (arg4 : Memref sig .tc .vmem S4096x1024 .f32) (harg4 : arg4.IsWhole)

theorem part1 {Q : (Σ' (d0 : Dev nD) (v2 : BitVec 32) (v13 : BitVec 32), BitVec 32) → sProp 𝕄} :
    St0 m K c
      ⊢ iprop((∀ v2 v13 v24, St1 m K c -∗ Q ⟨c, v2, v13, v24⟩)
          -∗ wp frame (wpE (defs₀ (F := F)) 𝒱₀ (c : Thread nD τ) none) Set.univ
              (k0_part1 arg0 harg0 arg1 harg1 arg2 harg2 arg3 harg3 arg4 harg4 fM (Memref.isWhole_whole _) cc0_scratch1 cc0_scratch2) Q) := by
  rw [k0_part1_eq_skeleton]; unfold k0_part1_skel
  simp only [semSignalWord, semWaitWord, Prog.lift, Prog.bind_op, Prog.bind_ret, Prog.pure_eq_ret, wp_deviceId]
  rw [show (⟨k0_dev1 c, k0_dev1_lt c⟩ : Dev nD) = prv c from Fin.ext (by revert c; decide), show (⟨k0_dev2 c, k0_dev2_lt c⟩ : Dev nD) = nxt c from Fin.ext (by revert c; decide)]
  unfold St0 gate St1
  iintro ⟨#HK, ⟨%W, HO⟩, ⟨HtP, HtN, HaB, HcB⟩, Hh, ⟨%f, Hf⟩⟩ Hk
  ihave Hf' := (Entails.of_eq (whole_blocks c f)) $$ Hf
  icases Hf' with ⟨Hown, Hrows⟩
  ihave Hlent := (lend c f) $$ Hrows
  unfold O₀
  iapply (Rounds.wp_signal 𝒱₀ ER (ringRd m) (c : Thread nD τ) none (dst := (prv c : Thread nD τ)) (κ := K (prv c, none))
      (d := true) (by rw [duties_bar]; exact Finset.mem_univ _) ((amount_bar m (prv c) true).trans (by decide)) () (O₁ c) rfl)
    $$ [HO HtP Hlent]
  · isplitr; · iapply (Known_inv m K (prv c, none)); iexact HK
    isplitl [HO]; · iexact HO
    isplitl [HtP]; · iexact HtP
    isplitl [Hlent]; · rw [payload_bar, if_pos rfl]; iexact Hlent
    iapply (Known_reached m K (prv c, none)); iexact HK
  iintro HO
  unfold O₁
  iapply (Rounds.wp_signal 𝒱₀ ER (ringRd m) (c : Thread nD τ) none (dst := (nxt c : Thread nD τ)) (κ := K (nxt c, none))
      (d := false) (by rw [duties_bar]; exact Finset.mem_univ _) ((amount_bar m (nxt c) false).trans (by decide)) () (Osum c 0) rfl)
    $$ [HO HtN]
  · isplitr; · iapply (Known_inv m K (nxt c, none)); iexact HK
    isplitl [HO]; · iexact HO
    isplitl [HtN]; · iexact HtN
    isplitr; · rw [payload_bar, if_neg (by decide)]; iempintro
    iapply (Known_reached m K (nxt c, none)); iexact HK
  iintro HO
  iapply (Rounds.wp_wait_rest_token 𝒱₀ ER (ringRd m) (c : Thread nD τ) none (κ := K (c, none))
      (wpE_semWait_eq 𝒱₀ (c : Thread nD τ) none Set.univ) (Set.mem_univ _) () (O := Osum c 0) (W := W) (R := 0) (m := 0) (T := ∅)
      (by rw [expect_bar]; decide)) $$ [HcB HO HaB]
  · isplitr; · iapply (Known_inv m K (c, none)); iexact HK
    isplitl [HcB]; · iexact HcB
    isplitl [HO]; · iexact HO
    isplitr; · iapply (Known_bar m K c); iexact HK
    iexact HaB
  iintro ⟨HO, HaB, -, Hpay⟩
  ihave Hp := (Entails.of_eq (rest_bar m c)) $$ Hpay
  icases Hp with ⟨-, Hl⟩
  imod (Rounds.cell_close ER (ringRd m) (Set.mem_univ (K (c, none))) (fun h => h) (R := 0 + 1) (duties_later m (barCell c))) $$ [HaB] with Hz
  · isplitr; · iapply (Known_inv m K (c, none)); iexact HK
    iexact HaB
  rw [wp_ret]; imodintro
  iapply Hk
  isplitr; · iexact HK
  isplitl [HO]; · unfold owed; iexists _; iexact HO
  isplitl [Hz]; · iexact Hz
  isplitl [Hown]; · iexists f; iexact Hown
  rw [todo_all]
  isplitl [Hl]; · iexact Hl
  iexact Hh

theorem read_xstg (f : (cc0_stg0_0 : Ref sig .tc).ty.Contents (Elt F)) :
    (Memref.whole cc0_stg0_0 : Memref sig .tc .vmem S1x256x1024 .f32).view.readAt (Elt F)
      (Rect.unit (s := S1x256x1024) ![0, 0, 0] S1x256x1024.size inb_S1x256x1024_S1x256x1024_0_0_0).toLoadRect f = f :=
  Memref.readAt_unit_zero (Elt F) cc0_stg0_0 (funext fun a => by fin_cases a <;> rfl) _ f

/-- Loading and storing the device's own rows. -/
theorem step_own (f : Buf (Elt F) ((c : Thread nD τ).loc cc0_scratch0)) (off : Fin 2 → ℕ) (hoff : off = ![256 * c.val, 0])
    (inb : ∀ a, off a + S256x1024.size a ≤ S4096x1024.size a)
    {hl : (fM : Memref sig .tc .vmem S4096x1024 .f32).view.LoadsAt (Rect.unit (s := S4096x1024) off S256x1024.size inb).toLoadRect}
    {hx : (fM.access (Rect.unit (s := S4096x1024) off S256x1024.size inb)).Stores Finset.univ}
    {hm : (Finset.univ : Finset (Rect.unit (s := S4096x1024) off S256x1024.size inb).shape.Idx) = Finset.univ
      ∨ ∀ a, (Rect.unit (s := S4096x1024) off S256x1024.size inb).stride a = 1}
    {α : Type} {Q : α → sProp 𝕄} {k : PUnit → Prog (TpuEff nD τ sig (Elt F) Λ₀ .tc) α} :
    blkPts c c f
      ⊢ iprop((blkPts c c (XF m) -∗ wp frame (wpE (defs₀ (F := F)) 𝒱₀ (c : Thread nD τ) none) Set.univ (k ⟨⟩) Q)
          -∗ wp frame (wpE (defs₀ (F := F)) 𝒱₀ (c : Thread nD τ) none) Set.univ
              (.op (.load fM (Rect.unit (s := S4096x1024) off S256x1024.size inb).toLoadRect hl) fun _ =>
                .op (.store fM (Rect.unit (s := S4096x1024) off S256x1024.size inb) (k0_pay1 (xstg m c)) Finset.univ hx hm) k) Q) := by
  subst hoff
  iintro Hb Hk
  ihave Hb' := (Entails.of_eq (blkPts_eq c c f)) $$ Hb
  iapply (wp_load_rect 𝒱₀ (c : Thread nD τ) none Set.univ (m := fM) (r := blkR c) (S := (blkR c).set) (by exact (View.set_slice_whole _ _).subset)) $$ Hb'; iintro Hb
  iapply (wp_store 𝒱₀ (c : Thread nD τ) none Set.univ (m := fM) (r := blkR c) (S := (blkR c).set) (Mk := Finset.univ) (by exact (View.set_slice_whole _ _).subset)) $$ Hb; iintro Hb
  iapply Hk
  rw [← own_store m c f, blkPts_eq]; iexact Hb

theorem part2 (v2 v24 : BitVec 32) {Q : BitVec 32 → sProp 𝕄} :
    iprop(St1 m K c ∗ xPts m c)
      ⊢ iprop((∀ v, (StA m K c 0 ∗ semVal (barCell c) 0 ∗ xPts m c) -∗ Q v)
          -∗ wp frame (wpE (defs₀ (F := F)) 𝒱₀ (c : Thread nD τ) none) Set.univ
              (k0_part2 (Memref.whole cc0_stg0_0) (Memref.isWhole_whole _) arg1 harg1 arg2 harg2 arg3 harg3 arg4 harg4 fM (Memref.isWhole_whole _)
                cc0_scratch1 cc0_scratch2 c v2 v24) Q) := by
  rw [k0_part2_eq_skeleton]; unfold k0_part2_skel
  simp only [Prog.lift, Prog.bind_op, Prog.bind_ret, Prog.pure_eq_ret]
  unfold St1 StA xPts
  iintro ⟨⟨#HK, HO, Hz, ⟨%f, Hb⟩, Hh⟩, Hx⟩ Hk
  iapply (wp_load 𝒱₀ (c : Thread nD τ) none Set.univ (m := (Memref.whole cc0_stg0_0 : Memref sig .tc .vmem S1x256x1024 .f32)) (Finset.subset_univ _)) $$ Hx; iintro Hx
  rw [read_xstg]
  iapply (step_own m c f _ ((off1_eq c).trans (by rw [back_zero])) _) $$ Hb; iintro Hb
  rw [wp_ret]; imodintro
  iapply Hk
  isplitr [Hz Hx]
  · isplitr; · iexact HK
    isplitl [HO]; · iexact HO
    isplitl [Hb]; · rw [back_zero]; iexact Hb
    iexact Hh
  isplitl [Hz]; · iexact Hz
  iexact Hx

/-- Past the last hop: the whole buffer, every hop's semaphores at zero. -/
theorem gathered : StA m K c (Fin.succ 14)
    ⊢ iprop(owed c 15 ∗ (((c : Thread nD τ).loc cc0_scratch0) ↦{fullShare} XF m)
        ∗ (bigSep Finset.univ fun h : Fin 15 => iprop(semVal (xCell c false h) 0 ∗ semVal (xCell c true h) 0))) := by
  show StA m K c (Fin.last 15) ⊢ _
  have hd : (bigSep Finset.univ fun j : Fin 15 => (item m c (Fin.last 15).val j : sProp 𝕄))
      = iprop((bigSep Finset.univ fun h : Fin 15 => iprop(semVal (xCell c false h) 0 ∗ semVal (xCell c true h) 0))
          ∗ bigSep Finset.univ fun h : Fin 15 => blkPts c (back c h.castSucc) (XF m)) := by
    rw [← bigSep_sep']
    refine bigSep_congr fun j _ => ?_
    unfold item done
    rw [if_pos (show j.val < (Fin.last 15).val from j.isLt)]; exact (BI.sep_assoc.antisymm BI.sep_assoc').symm
  unfold StA
  rw [hd, whole_blocks_last]
  iintro ⟨-, HO, Hb, Hs, Hbs⟩
  isplitl [HO]; · iexact HO
  isplitl [Hb Hbs]
  · isplitl [Hb]; · iexact Hb
    iexact Hbs
  iexact Hs

end Cert.Attn

end
-- ==== Proof.Tiles.lean ====
/-
What the kernel writes: eight heads by eight blocks of queries, each a tile of the result, and the state between two
tiles. A tile is head `h`'s attention for the `q`-th 512 rows; `fillTo n` is the result with its first `n` tiles written.
-/
module

public import proofs.«01_k».proof.Proof.Ring

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A tile -/

theorem rows_slice (q : Fin 8) : S4096x1024.Slices ![512 * q.val, 0] S512x1024 := by revert q; decide

/-- A head's keys (or values) for every row. -/
def proj (X : Vec F S4096x1024 .f32) (w : Vec F S1024x128 .f32) : FVec F S4096x128 .f32 :=
  matmul dot_S4096x1024_S1024x128_S4096x128_1_0_0_1_n_n none X (shapeCast S1024x128 w shapeCasts_S1024x128_S1024x128)
    (constant S4096x128 .f32 0x00000000#32)

/-- The scores of the `q`-th 512 rows against every row, scaled. -/
def scores (X : Vec F S4096x1024 .f32) (wq wk : Vec F S1024x128 .f32) (q : Fin 8) : FVec F S512x4096 .f32 :=
  mulf (matmul dot_S512x128_S4096x128_S512x4096_1_1_0_0_n_n none
      (matmul dot_S512x1024_S1024x128_S512x128_1_0_0_1_n_n none (extractStridedSlice S512x1024 ![512 * q.val, 0] X (rows_slice q))
        (shapeCast S1024x128 wq shapeCasts_S1024x128_S1024x128) (constant S512x128 .f32 0x00000000#32))
      (proj X wk) (constant S512x4096 .f32 0x00000000#32))
    (broadcast S512x4096 (Scalar.ofBits .f32 0x3DB504F3#32))

/-- The exponentials of what each row's scores lack of their greatest. -/
def weights (s : FVec F S512x4096 .f32) : FVec F S512x4096 .f32 :=
  exp (subf s (broadcastTo S512x4096
    (shapeCast S512x1 (multiReduction .maximumf [1] S512 s 0xFF800000#32 reduces_S512x4096_S512 (.inl rfl) rfl) shapeCasts_S512_S512x1)
    broadcasts_S512x1_S512x4096))

/-- Their average of the values. -/
def mix (p : FVec F S512x4096 .f32) (v : FVec F S4096x128 .f32) : FVec F S512x128 .f32 :=
  divf (matmul dot_S512x4096_S4096x128_S512x128_1_0_0_1_n_n none p v (constant S512x128 .f32 0x00000000#32))
    (broadcastTo S512x128
      (shapeCast S512x1 (multiReduction .add [1] S512 p 0x00000000#32 reduces_S512x4096_S512 (.inl rfl) rfl) shapeCasts_S512_S512x1)
      broadcasts_S512x1_S512x128)

def tileVal (X : Vec F S4096x1024 .f32) (wq wk wv : Vec F S1024x128 .f32) (q : Fin 8) : FVec F S512x128 .f32 :=
  mix (weights (scores X wq wk q)) (proj X wv)

/-! ## The weights, by head -/

theorem w_inb (h : Fin 8) : ∀ a, (![0, 128 * h.val] : Fin 2 → ℕ) a + S1024x128.size a ≤ S1024x1024.size a := by revert h; decide
abbrev wRect (h : Fin 8) : Rect S1024x1024 := Rect.unit (s := S1024x1024) ![0, 128 * h.val] S1024x128.size (w_inb h)
/-- Head `h`'s columns of a device's weights. -/
def wBlk (W : Vec F S1024x1024 .f32) (h : Fin 8) : Vec F S1024x128 .f32 := fun x => W ((wRect h).emb x)

/-! ## The result, filled tile by tile -/

theorem t_inb (h q : Fin 8) : ∀ a, (![512 * q.val, 128 * h.val] : Fin 2 → ℕ) a + S512x128.size a ≤ S4096x1024.size a := by revert h q; decide
abbrev tRect (h q : Fin 8) : Rect S4096x1024 := Rect.unit (s := S4096x1024) ![512 * q.val, 128 * h.val] S512x128.size (t_inb h q)

set_option backward.proofsInPublic true in
/-- The head, the block of queries and the place in the tile of an element of the result. -/
def hd (i : S4096x1024.Idx) : Fin 8 := ⟨(i 1).val / 128, by have : (i 1).val < 1024 := (i 1).isLt; omega⟩
set_option backward.proofsInPublic true in
def qb (i : S4096x1024.Idx) : Fin 8 := ⟨(i 0).val / 512, by have : (i 0).val < 4096 := (i 0).isLt; omega⟩
set_option backward.proofsInPublic true in
def spot (i : S4096x1024.Idx) : S512x128.Idx := fun a => ⟨(i a).val % S512x128.size a, Nat.mod_lt _ (by revert a; decide)⟩

theorem hd_emb (h q : Fin 8) (x : S512x128.Idx) : hd ((tRect h q).emb x) = h := by
  apply Fin.ext
  have h1 : (x 1).val < 128 := (x 1).isLt
  show (128 * h.val + 1 * (x 1).val) / 128 = h.val
  omega
theorem qb_emb (h q : Fin 8) (x : S512x128.Idx) : qb ((tRect h q).emb x) = q := by
  apply Fin.ext
  have h0 : (x 0).val < 512 := (x 0).isLt
  show (512 * q.val + 1 * (x 0).val) / 512 = q.val
  omega
theorem spot_emb (h q : Fin 8) (x : S512x128.Idx) : spot ((tRect h q).emb x) = x := by
  funext a; apply Fin.ext
  have h0 : (x 0).val < 512 := (x 0).isLt
  have h1 : (x 1).val < 128 := (x 1).isLt
  match a with
  | 0 => show (512 * q.val + 1 * (x 0).val) % 512 = (x 0).val; omega
  | 1 => show (128 * h.val + 1 * (x 1).val) % 128 = (x 1).val; omega
theorem emb_spot (i : S4096x1024.Idx) : (tRect (hd i) (qb i)).emb (spot i) = i := by
  funext a; apply Fin.ext
  match a with
  | 0 => show 512 * ((i 0).val / 512) + 1 * ((i 0).val % 512) = (i 0).val; omega
  | 1 => show 128 * ((i 1).val / 128) + 1 * ((i 1).val % 128) = (i 1).val; omega

theorem tile_of_mem {h q : Fin 8} {i : S4096x1024.Idx} (hi : i ∈ (tRect h q).set) : hd i = h ∧ qb i = q := by
  have hm := Rect.mem_set_unit.mp hi
  have h0 : 512 * q.val ≤ (i 0).val ∧ (i 0).val < 512 * q.val + 512 := hm 0
  have h1 : 128 * h.val ≤ (i 1).val ∧ (i 1).val < 128 * h.val + 128 := hm 1
  exact ⟨Fin.ext (show (i 1).val / 128 = h.val by omega), Fin.ext (show (i 0).val / 512 = q.val by omega)⟩

section Fill

variable (X : Vec F S4096x1024 .f32) (wq wk wv : Vec F S1024x1024 .f32)

/-- The whole result. -/
def attn : Vec F S4096x1024 .f32 := fun i => tileVal X (wBlk wq (hd i)) (wBlk wk (hd i)) (wBlk wv (hd i)) (qb i) (spot i)

def fillTo (O : Vec F S4096x1024 .f32) (n : ℕ) : Vec F S4096x1024 .f32 :=
  fun i => if 8 * (hd i).val + (qb i).val < n then attn X wq wk wv i else O i

theorem fill_zero (O : Vec F S4096x1024 .f32) : fillTo X wq wk wv O 0 = O := funext fun i => if_neg (Nat.not_lt_zero _)
theorem fill_all (O : Vec F S4096x1024 .f32) : fillTo X wq wk wv O 64 = attn X wq wk wv :=
  funext fun i => if_pos (by have := (hd i).isLt; have := (qb i).isLt; omega)

abbrev oM : Memref sig .tc .vmem S4096x1024 .f32 := Memref.whole cc0_stg4_0

/-- Storing the next tile. -/
theorem fill_step (O : Vec F S4096x1024 .f32) (h q : Fin 8) :
    (oM.access (tRect h q) : View sig .tc _ _ _).write (Elt F) (fillTo X wq wk wv O (8 * h.val + q.val))
        (tileVal X (wBlk wq h) (wBlk wk h) (wBlk wv h) q) Finset.univ
      = fillTo X wq wk wv O (8 * h.val + q.val + 1) := by
  funext i
  obtain ⟨h', q', x, rfl⟩ : ∃ h' q' x, (tRect h' q').emb x = i := ⟨_, _, _, emb_spot i⟩
  by_cases he : h' = h ∧ q' = q
  · obtain ⟨rfl, rfl⟩ := he
    refine (View.write_emb_of_mem (v := (oM.access (tRect h' q') : View sig .tc _ _ _)) _ _ (Finset.mem_univ x)).trans ?_
    unfold fillTo attn
    rw [hd_emb, qb_emb, spot_emb, if_pos (Nat.lt_succ_self _)]
    rfl
  · have hn : (tRect h' q').emb x ∉ (tRect h q).set := by
      intro hm
      obtain ⟨h1, h2⟩ := tile_of_mem hm
      rw [hd_emb] at h1; rw [qb_emb] at h2
      exact he ⟨h1, h2⟩
    have hset : (oM.access (tRect h q) : View sig .tc _ _ _).setOn Finset.univ = (tRect h q).set := View.set_slice_whole _ _
    refine (View.write_of_not_mem (v := (oM.access (tRect h q) : View sig .tc _ _ _)) _ _ _ (fun hm => hn (hset ▸ hm))).trans ?_
    unfold fillTo
    rw [hd_emb, qb_emb]
    by_cases hl : 8 * h'.val + q'.val < 8 * h.val + q.val
    · rw [if_pos hl, if_pos (by omega)]
    · have : ¬ (8 * h'.val + q'.val < 8 * h.val + q.val + 1) := by
        intro hl'
        exact he ⟨Fin.ext (by omega), Fin.ext (by omega)⟩
      rw [if_neg hl, if_neg this]

end Fill

end Cert.Attn

end
-- ==== Proof.Steps.lean ====
/-
The operations a head is made of: loading its columns of the weights, and storing a tile.
-/
module

public import proofs.«01_k».proof.Proof.Tiles
public import proofs.«01_k».proof.Proof.Sched

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev qM : Memref sig .tc .vmem S1024x1024 .f32 := Memref.whole cc0_stg1_0
abbrev kM : Memref sig .tc .vmem S1024x1024 .f32 := Memref.whole cc0_stg2_0
abbrev vM : Memref sig .tc .vmem S1024x1024 .f32 := Memref.whole cc0_stg3_0

variable (c : Dev nD) (X : Vec F S4096x1024 .f32) (wq wk wv : Vec F S1024x1024 .f32) (O : Vec F S4096x1024 .f32)

/-- With `n` tiles written. -/
def Tls (n : ℕ) : sProp 𝕄 :=
  iprop((((c : Thread nD τ).loc cc0_stg1_0) ↦{fullShare} wq) ∗ (((c : Thread nD τ).loc cc0_stg2_0) ↦{fullShare} wk)
    ∗ (((c : Thread nD τ).loc cc0_stg3_0) ↦{fullShare} wv) ∗ (((c : Thread nD τ).loc cc0_stg4_0) ↦{fullShare} fillTo X wq wk wv O n))

variable {α : Type} {Q : α → sProp (MT nD τ sig Unit (Elt F) ℕ UU ℕ)}

section Loads

variable (h : Fin 8) (n : ℕ) (off : Fin 2 → ℕ) (hoff : off = ![0, 128 * h.val])
  (inb : ∀ a, off a + S1024x128.size a ≤ S1024x1024.size a)
  {k : (S1024x128.Idx → Elt F .f32) → Prog (TpuEff nD τ sig (Elt F) Λ₀ .tc) α}
include hoff

theorem step_q {hl : (qM : Memref sig .tc .vmem S1024x1024 .f32).view.LoadsAt (Rect.unit (s := S1024x1024) off S1024x128.size inb).toLoadRect} :
    Tls c X wq wk wv O n
      ⊢ iprop((Tls c X wq wk wv O n -∗ wp frame (wpE (defs₀ (F := F)) 𝒱₀ (c : Thread nD τ) none) Set.univ (k (wBlk wq h)) Q)
          -∗ wp frame (wpE (defs₀ (F := F)) 𝒱₀ (c : Thread nD τ) none) Set.univ
              (.op (.load qM (Rect.unit (s := S1024x1024) off S1024x128.size inb).toLoadRect hl) k) Q) := by
  subst hoff
  unfold Tls
  iintro ⟨Hq, Hk, Hv, Ho⟩ Hc
  iapply (wp_load 𝒱₀ (c : Thread nD τ) none Set.univ (m := qM) (Finset.subset_univ _)) $$ Hq; iintro Hq
  iapply Hc
  isplitl [Hq]; · iexact Hq
  isplitl [Hk]; · iexact Hk
  isplitl [Hv] <;> iassumption

theorem step_k {hl : (kM : Memref sig .tc .vmem S1024x1024 .f32).view.LoadsAt (Rect.unit (s := S1024x1024) off S1024x128.size inb).toLoadRect} :
    Tls c X wq wk wv O n
      ⊢ iprop((Tls c X wq wk wv O n -∗ wp frame (wpE (defs₀ (F := F)) 𝒱₀ (c : Thread nD τ) none) Set.univ (k (wBlk wk h)) Q)
          -∗ wp frame (wpE (defs₀ (F := F)) 𝒱₀ (c : Thread nD τ) none) Set.univ
              (.op (.load kM (Rect.unit (s := S1024x1024) off S1024x128.size inb).toLoadRect hl) k) Q) := by
  subst hoff
  unfold Tls
  iintro ⟨Hq, Hk, Hv, Ho⟩ Hc
  iapply (wp_load 𝒱₀ (c : Thread nD τ) none Set.univ (m := kM) (Finset.subset_univ _)) $$ Hk; iintro Hk
  iapply Hc
  isplitl [Hq]; · iexact Hq
  isplitl [Hk]; · iexact Hk
  isplitl [Hv] <;> iassumption

theorem step_v {hl : (vM : Memref sig .tc .vmem S1024x1024 .f32).view.LoadsAt (Rect.unit (s := S1024x1024) off S1024x128.size inb).toLoadRect} :
    Tls c X wq wk wv O n
      ⊢ iprop((Tls c X wq wk wv O n -∗ wp frame (wpE (defs₀ (F := F)) 𝒱₀ (c : Thread nD τ) none) Set.univ (k (wBlk wv h)) Q)
          -∗ wp frame (wpE (defs₀ (F := F)) 𝒱₀ (c : Thread nD τ) none) Set.univ
              (.op (.load vM (Rect.unit (s := S1024x1024) off S1024x128.size inb).toLoadRect hl) k) Q) := by
  subst hoff
  unfold Tls
  iintro ⟨Hq, Hk, Hv, Ho⟩ Hc
  iapply (wp_load 𝒱₀ (c : Thread nD τ) none Set.univ (m := vM) (Finset.subset_univ _)) $$ Hv; iintro Hv
  iapply Hc
  isplitl [Hq]; · iexact Hq
  isplitl [Hk]; · iexact Hk
  isplitl [Hv] <;> iassumption

end Loads

/-- Loading what a tile's place holds; nothing depends on it. -/
theorem step_peek (n : ℕ) (r : LoadRect S4096x1024)
    {hl : (oM : Memref sig .tc .vmem S4096x1024 .f32).view.LoadsAt r}
    {k : (r.shape.Idx → Elt F .f32) → Prog (TpuEff nD τ sig (Elt F) Λ₀ .tc) α} :
    Tls c X wq wk wv O n
      ⊢ iprop((∀ v, Tls c X wq wk wv O n -∗ wp frame (wpE (defs₀ (F := F)) 𝒱₀ (c : Thread nD τ) none) Set.univ (k v) Q)
          -∗ wp frame (wpE (defs₀ (F := F)) 𝒱₀ (c : Thread nD τ) none) Set.univ (.op (.load oM r hl) k) Q) := by
  unfold Tls
  iintro ⟨Hq, Hk, Hv, Ho⟩ Hc
  iapply (wp_load 𝒱₀ (c : Thread nD τ) none Set.univ (m := oM) (Finset.subset_univ _)) $$ Ho; iintro Ho
  iapply Hc
  isplitl [Hq]; · iexact Hq
  isplitl [Hk]; · iexact Hk
  isplitl [Hv] <;> iassumption

/-- Storing a tile. -/
theorem step_tile (h q : Fin 8) (off : Fin 2 → ℕ) (hoff : off = ![512 * q.val, 128 * h.val])
    (inb : ∀ a, off a + S512x128.size a ≤ S4096x1024.size a)
    (w : Vec F S512x128 .f32) (hw : w = tileVal X (wBlk wq h) (wBlk wk h) (wBlk wv h) q)
    {hx : (oM.access (Rect.unit (s := S4096x1024) off S512x128.size inb)).Stores Finset.univ}
    {hm : (Finset.univ : Finset (Rect.unit (s := S4096x1024) off S512x128.size inb).shape.Idx) = Finset.univ
      ∨ ∀ a, (Rect.unit (s := S4096x1024) off S512x128.size inb).stride a = 1}
    {k : PUnit → Prog (TpuEff nD τ sig (Elt F) Λ₀ .tc) α} :
    Tls c X wq wk wv O (8 * h.val + q.val)
      ⊢ iprop((Tls c X wq wk wv O (8 * h.val + q.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S4096x1024) off S512x128.size inb) w Finset.univ hx hm) k) Q) := by
  subst hoff hw
  unfold Tls
  iintro ⟨Hq, Hk, Hv, Ho⟩ Hc
  iapply (wp_store 𝒱₀ (c : Thread nD τ) none Set.univ (m := oM) (r := tRect h q) (Mk := Finset.univ) (Finset.subset_univ _)) $$ Ho; iintro Ho
  rw [fill_step]
  iapply Hc
  isplitl [Hq]; · iexact Hq
  isplitl [Hk]; · iexact Hk
  isplitl [Hv] <;> iassumption

end Cert.Attn

end
-- ==== Proof.Heads.lean ====
/-
The heads, part by part: each piece of the kernel's text past the gather writes its tiles and passes on what it computed.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (X : Vec F S4096x1024 .f32) (wq wk wv : Vec F S1024x1024 .f32) (O : Vec F S4096x1024 .f32)
variable (arg0 : Memref sig .tc .vmem S1x256x1024 .f32) (harg0 : arg0.IsWhole)

theorem part24 {Q : (FVec F S512x4096 .f32) → sProp 𝕄} :
    Tls c X wq wk wv O 1
      ⊢ iprop((Tls c X wq wk wv O 3 -∗ Q ((k0_pay9 X (k0_pay2 (wBlk wq 0)) (k0_pay3 X (wBlk wk 0)))))
          -∗ wp frame (wpE (defs₀ (F := F)) 𝒱₀ (c : Thread nD τ) none) Set.univ
              (k0_part24 arg0 harg0 qM (Memref.isWhole_whole _) kM (Memref.isWhole_whole _) vM (Memref.isWhole_whole _) oM (Memref.isWhole_whole _) fM (Memref.isWhole_whole _) cc0_scratch1 cc0_scratch2
                X (k0_pay2 (wBlk wq 0)) (k0_pay3 X (wBlk wk 0)) (k0_pay4 X (wBlk wv 0)) (k0_pay6 X (wBlk wk 0) (wBlk wq 0))) Q) := by
  rw [k0_part24_eq_skeleton]; unfold k0_part24_skel
  simp only [Prog.lift, Prog.bind_op, Prog.bind_ret, Prog.pure_eq_ret]
  iintro H Hk
  iapply (step_peek c _ wq wk wv O _ _) $$ H; iintro %_ H
  iapply (step_tile c _ wq wk wv O 0 1 _ rfl _ _ rfl) $$ H; iintro H
  iapply (step_peek c _ wq wk wv O _ _) $$ H; iintro %_ H
  iapply (step_tile c _ wq wk wv O 0 2 _ rfl _ _ rfl) $$ H; iintro H
  rw [wp_ret]; imodintro; iapply Hk; iexact H

theorem part25 {Q : (PUnit) → sProp 𝕄} :
    Tls c X wq wk wv O 3
      ⊢ iprop((Tls c X wq wk wv O 6 -∗ Q ⟨⟩)
          -∗ wp frame (wpE (defs₀ (F := F)) 𝒱₀ (c : Thread nD τ) none) Set.univ
              (k0_part25 arg0 harg0 qM (Memref.isWhole_whole _) kM (Memref.isWhole_whole _) vM (Memref.isWhole_whole _) oM (Memref.isWhole_whole _) fM (Memref.isWhole_whole _) cc0_scratch1 cc0_scratch2
                X (k0_pay2 (wBlk wq 0)) (k0_pay3 X (wBlk wk 0)) (k0_pay4 X (wBlk wv 0)) ((k0_pay9 X (k0_pay2 (wBlk wq 0)) (k0_pay3 X (wBlk wk 0))))) Q) := by
  rw [k0_part25_eq_skeleton]; unfold k0_part25_skel
  simp only [Prog.lift, Prog.bind_op, Prog.bind_ret, Prog.pure_eq_ret]
  iintro H Hk
  iapply (step_peek c _ wq wk wv O _ _) $$ H; iintro %_ H
  iapply (step_tile c _ wq wk wv O 0 3 _ rfl _ _ rfl) $$ H; iintro H
  iapply (step_peek c _ wq wk wv O _ _) $$ H; iintro %_ H
  iapply (step_tile c _ wq wk wv O 0 4 _ rfl _ _ rfl) $$ H; iintro H
  iapply (step_peek c _ wq wk wv O _ _) $$ H; iintro %_ H
  iapply (step_tile c _ wq wk wv O 0 5 _ rfl _ _ rfl) $$ H; iintro H
  rw [wp_ret]; imodintro; iapply Hk; iexact H

theorem part26 {Q : (Σ' (v850 : FVec F S1024x128 .f32), FVec F S1024x128 .f32) → sProp 𝕄} :
    Tls c X wq wk wv O 6
      ⊢ iprop((Tls c X wq wk wv O 8 -∗ Q ⟨(k0_pay15 (wBlk wk 1)), (k0_pay16 (wBlk wv 1))⟩)
          -∗ wp frame (wpE (defs₀ (F := F)) 𝒱₀ (c : Thread nD τ) none) Set.univ
              (k0_part26 arg0 harg0 qM (Memref.isWhole_whole _) kM (Memref.isWhole_whole _) vM (Memref.isWhole_whole _) oM (Memref.isWhole_whole _) fM (Memref.isWhole_whole _) cc0_scratch1 cc0_scratch2
                X (k0_pay2 (wBlk wq 0)) (k0_pay3 X (wBlk wk 0)) (k0_pay4 X (wBlk wv 0))) Q) := by
  rw [k0_part26_eq_skeleton]; unfold k0_part26_skel
  simp only [Prog.lift, Prog.bind_op, Prog.bind_ret, Prog.pure_eq_ret]
  iintro H Hk
  iapply (step_peek c _ wq wk wv O _ _) $$ H; iintro %_ H
  iapply (step_tile c _ wq wk wv O 0 6 _ rfl _ _ rfl) $$ H; iintro H
  iapply (step_peek c _ wq wk wv O _ _) $$ H; iintro %_ H
  iapply (step_tile c _ wq wk wv O 0 7 _ rfl _ _ rfl) $$ H; iintro H
  iapply (step_k c _ wq wk wv O 1 _ _ rfl _) $$ H; iintro H
  iapply (step_v c _ wq wk wv O 1 _ _ rfl _) $$ H; iintro H
  rw [wp_ret]; imodintro; iapply Hk; iexact H

theorem part27 {Q : (Σ' (v854 : FVec F S1024x128 .f32) (v855 : FVec F S4096x128 .f32) (v856 : FVec F S4096x128 .f32) (v890 : FVec F S512x128 .f32), FVec F S512x4096 .f32) → sProp 𝕄} :
    Tls c X wq wk wv O 8
      ⊢ iprop((Tls c X wq wk wv O 10 -∗ Q ⟨(k0_pay17 (wBlk wq 1)), (k0_pay18 X (k0_pay15 (wBlk wk 1))), (k0_pay19 X (k0_pay16 (wBlk wv 1))), (k0_pay22 X (wBlk wq 1)), ((constant S512x4096 .f32 0x00000000#32))⟩)
          -∗ wp frame (wpE (defs₀ (F := F)) 𝒱₀ (c : Thread nD τ) none) Set.univ
              (k0_part27 arg0 harg0 qM (Memref.isWhole_whole _) kM (Memref.isWhole_whole _) vM (Memref.isWhole_whole _) oM (Memref.isWhole_whole _) fM (Memref.isWhole_whole _) cc0_scratch1 cc0_scratch2
                X (k0_pay15 (wBlk wk 1)) (k0_pay16 (wBlk wv 1))) Q) := by
  rw [k0_part27_eq_skeleton]; unfold k0_part27_skel
  simp only [Prog.lift, Prog.bind_op, Prog.bind_ret, Prog.pure_eq_ret]
  iintro H Hk
  iapply (step_q c _ wq wk wv O 1 _ _ rfl _) $$ H; iintro H
  iapply (step_peek c _ wq wk wv O _ _) $$ H; iintro %_ H
  iapply (step_tile c _ wq wk wv O 1 0 _ rfl _ _ rfl) $$ H; iintro H
  iapply (step_peek c _ wq wk wv O _ _) $$ H; iintro %_ H
  iapply (step_tile c _ wq wk wv O 1 1 _ rfl _ _ rfl) $$ H; iintro H
  rw [wp_ret]; imodintro; iapply Hk; iexact H

theorem part28 {Q : (FVec F S512x4096 .f32) → sProp 𝕄} :
    Tls c X wq wk wv O 10
      ⊢ iprop((Tls c X wq wk wv O 12 -∗ Q ((k0_pay25 X (k0_pay17 (wBlk wq 1)) (k0_pay18 X (k0_pay15 (wBlk wk 1))))))
          -∗ wp frame (wpE (defs₀ (F := F)) 𝒱₀ (c : Thread nD τ) none) Set.univ
              (k0_part28 arg0 harg0 qM (Memref.isWhole_whole _) kM (Memref.isWhole_whole _) vM (Memref.isWhole_whole _) oM (Memref.isWhole_whole _) fM (Memref.isWhole_whole _) cc0_scratch1 cc0_scratch2
                X (k0_pay17 (wBlk wq 1)) (k0_pay18 X (k0_pay15 (wBlk wk 1))) (k0_pay19 X (k0_pay16 (wBlk wv 1))) (k0_pay22 X (wBlk wq 1)) ((constant S512x4096 .f32 0x00000000#32))) Q) := by
  rw [k0_part28_eq_skeleton]; unfold k0_part28_skel
  simp only [Prog.lift, Prog.bind_op, Prog.bind_ret, Prog.pure_eq_ret]
  iintro H Hk
  iapply (step_peek c _ wq wk wv O _ _) $$ H; iintro %_ H
  iapply (step_tile c _ wq wk wv O 1 2 _ rfl _ _ rfl) $$ H; iintro H
  iapply (step_peek c _ wq wk wv O _ _) $$ H; iintro %_ H
  iapply (step_tile c _ wq wk wv O 1 3 _ rfl _ _ rfl) $$ H; iintro H
  rw [wp_ret]; imodintro; iapply Hk; iexact H

theorem part29 {Q : (FVec F S512x128 .f32) → sProp 𝕄} :
    Tls c X wq wk wv O 12
      ⊢ iprop((Tls c X wq wk wv O 14 -∗ Q ((k0_pay28 X (k0_pay17 (wBlk wq 1)) (k0_pay18 X (k0_pay15 (wBlk wk 1))) (k0_pay19 X (k0_pay16 (wBlk wv 1))))))
          -∗ wp frame (wpE (defs₀ (F := F)) 𝒱₀ (c : Thread nD τ) none) Set.univ
              (k0_part29 arg0 harg0 qM (Memref.isWhole_whole _) kM (Memref.isWhole_whole _) vM (Memref.isWhole_whole _) oM (Memref.isWhole_whole _) fM (Memref.isWhole_whole _) cc0_scratch1 cc0_scratch2
                X (k0_pay17 (wBlk wq 1)) (k0_pay18 X (k0_pay15 (wBlk wk 1))) (k0_pay19 X (k0_pay16 (wBlk wv 1))) ((k0_pay25 X (k0_pay17 (wBlk wq 1)) (k0_pay18 X (k0_pay15 (wBlk wk 1)))))) Q) := by
  rw [k0_part29_eq_skeleton]; unfold k0_part29_skel
  simp only [Prog.lift, Prog.bind_op, Prog.bind_ret, Prog.pure_eq_ret]
  iintro H Hk
  iapply (step_peek c _ wq wk wv O _ _) $$ H; iintro %_ H
  iapply (step_tile c _ wq wk wv O 1 4 _ rfl _ _ rfl) $$ H; iintro H
  iapply (step_peek c _ wq wk wv O _ _) $$ H; iintro %_ H
  iapply (step_tile c _ wq wk wv O 1 5 _ rfl _ _ rfl) $$ H; iintro H
  iapply (step_peek c _ wq wk wv O _ _) $$ H; iintro %_ H
  rw [wp_ret]; imodintro; iapply Hk; iexact H

theorem part30 {Q : (Σ' (v990 : FVec F S1024x128 .f32) (v991 : FVec F S4096x128 .f32) (v992 : FVec F S4096x128 .f32) (v1002 : FVec F S512x4096 .f32) (v1004 : FVec F S512x1 .f32), FVec F S512x128 .f32) → sProp 𝕄} :
    Tls c X wq wk wv O 14
      ⊢ iprop((Tls c X wq wk wv O 16 -∗ Q ⟨(k0_pay30 (wBlk wq 2)), (k0_pay31 X (wBlk wk 2)), (k0_pay32 X (wBlk wv 2)), (k0_pay33 X (wBlk wk 2) (wBlk wq 2)), (k0_pay34 X (wBlk wk 2) (wBlk wq 2)), ((constant S512x128 .f32 0x00000000#32))⟩)
          -∗ wp frame (wpE (defs₀ (F := F)) 𝒱₀ (c : Thread nD τ) none) Set.univ
              (k0_part30 arg0 harg0 qM (Memref.isWhole_whole _) kM (Memref.isWhole_whole _) vM (Memref.isWhole_whole _) oM (Memref.isWhole_whole _) fM (Memref.isWhole_whole _) cc0_scratch1 cc0_scratch2
                X (k0_pay17 (wBlk wq 1)) (k0_pay18 X (k0_pay15 (wBlk wk 1))) (k0_pay19 X (k0_pay16 (wBlk wv 1))) ((k0_pay28 X (k0_pay17 (wBlk wq 1)) (k0_pay18 X (k0_pay15 (wBlk wk 1))) (k0_pay19 X (k0_pay16 (wBlk wv 1)))))) Q) := by
  rw [k0_part30_eq_skeleton]; unfold k0_part30_skel
  simp only [Prog.lift, Prog.bind_op, Prog.bind_ret, Prog.pure_eq_ret]
  iintro H Hk
  iapply (step_tile c _ wq wk wv O 1 6 _ rfl _ _ rfl) $$ H; iintro H
  iapply (step_peek c _ wq wk wv O _ _) $$ H; iintro %_ H
  iapply (step_tile c _ wq wk wv O 1 7 _ rfl _ _ rfl) $$ H; iintro H
  iapply (step_k c _ wq wk wv O 2 _ _ rfl _) $$ H; iintro H
  iapply (step_v c _ wq wk wv O 2 _ _ rfl _) $$ H; iintro H
  iapply (step_q c _ wq wk wv O 2 _ _ rfl _) $$ H; iintro H
  rw [wp_ret]; imodintro; iapply Hk; iexact H

theorem part31 {Q : (FVec F S512x128 .f32) → sProp 𝕄} :
    Tls c X wq wk wv O 16
      ⊢ iprop((Tls c X wq wk wv O 19 -∗ Q ((k0_pay38 X (k0_pay30 (wBlk wq 2)))))
          -∗ wp frame (wpE (defs₀ (F := F)) 𝒱₀ (c : Thread nD τ) none) Set.univ
              (k0_part31 arg0 harg0 qM (Memref.isWhole_whole _) kM (Memref.isWhole_whole _) vM (Memref.isWhole_whole _) oM (Memref.isWhole_whole _) fM (Memref.isWhole_whole _) cc0_scratch1 cc0_scratch2
                X (k0_pay30 (wBlk wq 2)) (k0_pay31 X (wBlk wk 2)) (k0_pay32 X (wBlk wv 2)) (k0_pay33 X (wBlk wk 2) (wBlk wq 2)) (k0_pay34 X (wBlk wk 2) (wBlk wq 2)) ((constant S512x128 .f32 0x00000000#32))) Q) := by
  rw [k0_part31_eq_skeleton]; unfold k0_part31_skel
  simp only [Prog.lift, Prog.bind_op, Prog.bind_ret, Prog.pure_eq_ret]
  iintro H Hk
  iapply (step_peek c _ wq wk wv O _ _) $$ H; iintro %_ H
  iapply (step_tile c _ wq wk wv O 2 0 _ rfl _ _ rfl) $$ H; iintro H
  iapply (step_peek c _ wq wk wv O _ _) $$ H; iintro %_ H
  iapply (step_tile c _ wq wk wv O 2 1 _ rfl _ _ rfl) $$ H; iintro H
  iapply (step_peek c _ wq wk wv O _ _) $$ H; iintro %_ H
  iapply (step_tile c _ wq wk wv O 2 2 _ rfl _ _ rfl) $$ H; iintro H
  rw [wp_ret]; imodintro; iapply Hk; iexact H

theorem part32 {Q : (FVec F S512x4096 .f32) → sProp 𝕄} :
    Tls c X wq wk wv O 19
      ⊢ iprop((Tls c X wq wk wv O 21 -∗ Q ((k0_pay41 X (k0_pay30 (wBlk wq 2)) (k0_pay31 X (wBlk wk 2)))))
          -∗ wp frame (wpE (defs₀ (F := F)) 𝒱₀ (c : Thread nD τ) none) Set.univ
              (k0_part32 arg0 harg0 qM (Memref.isWhole_whole _) kM (Memref.isWhole_whole _) vM (Memref.isWhole_whole _) oM (Memref.isWhole_whole _) fM (Memref.isWhole_whole _) cc0_scratch1 cc0_scratch2
                X (k0_pay30 (wBlk wq 2)) (k0_pay31 X (wBlk wk 2)) (k0_pay32 X (wBlk wv 2)) ((k0_pay38 X (k0_pay30 (wBlk wq 2))))) Q) := by
  rw [k0_part32_eq_skeleton]; unfold k0_part32_skel
  simp only [Prog.lift, Prog.bind_op, Prog.bind_ret, Prog.pure_eq_ret]
  iintro H Hk
  iapply (step_peek c _ wq wk wv O _ _) $$ H; iintro %_ H
  iapply (step_tile c _ wq wk wv O 2 3 _ rfl _ _ rfl) $$ H; iintro H
  iapply (step_peek c _ wq wk wv O _ _) $$ H; iintro %_ H
  iapply (step_tile c _ wq wk wv O 2 4 _ rfl _ _ rfl) $$ H; iintro H
  rw [wp_ret]; imodintro; iapply Hk; iexact H

theorem part33 {Q : (FVec F S512x128 .f32) → sProp 𝕄} :
    Tls c X wq wk wv O 21
      ⊢ iprop((Tls c X wq wk wv O 23 -∗ Q ((k0_pay44 X (k0_pay30 (wBlk wq 2)) (k0_pay31 X (wBlk wk 2)) (k0_pay32 X (wBlk wv 2)))))
          -∗ wp frame (wpE (defs₀ (F := F)) 𝒱₀ (c : Thread nD τ) none) Set.univ
              (k0_part33 arg0 harg0 qM (Memref.isWhole_whole _) kM (Memref.isWhole_whole _) vM (Memref.isWhole_whole _) oM (Memref.isWhole_whole _) fM (Memref.isWhole_whole _) cc0_scratch1 cc0_scratch2
                X (k0_pay30 (wBlk wq 2)) (k0_pay31 X (wBlk wk 2)) (k0_pay32 X (wBlk wv 2)) ((k0_pay41 X (k0_pay30 (wBlk wq 2)) (k0_pay31 X (wBlk wk 2))))) Q) := by
  rw [k0_part33_eq_skeleton]; unfold k0_part33_skel
  simp only [Prog.lift, Prog.bind_op, Prog.bind_ret, Prog.pure_eq_ret]
  iintro H Hk
  iapply (step_peek c _ wq wk wv O _ _) $$ H; iintro %_ H
  iapply (step_tile c _ wq wk wv O 2 5 _ rfl _ _ rfl) $$ H; iintro H
  iapply (step_peek c _ wq wk wv O _ _) $$ H; iintro %_ H
  iapply (step_tile c _ wq wk wv O 2 6 _ rfl _ _ rfl) $$ H; iintro H
  rw [wp_ret]; imodintro; iapply Hk; iexact H

theorem part34 {Q : (Σ' (v1126 : FVec F S1024x128 .f32) (v1127 : FVec F S4096x128 .f32) (v1128 : FVec F S4096x128 .f32) (v1154 : FVec F S512x4096 .f32), FVec F S512x1 .f32) → sProp 𝕄} :
    Tls c X wq wk wv O 23
      ⊢ iprop((Tls c X wq wk wv O 25 -∗ Q ⟨(k0_pay45 (wBlk wq 3)), (k0_pay46 X (wBlk wk 3)), (k0_pay47 X (wBlk wv 3)), (k0_pay49 X (wBlk wk 3) (wBlk wq 3)), (k0_pay50 X (wBlk wk 3) (wBlk wq 3))⟩)
          -∗ wp frame (wpE (defs₀ (F := F)) 𝒱₀ (c : Thread nD τ) none) Set.univ
              (k0_part34 arg0 harg0 qM (Memref.isWhole_whole _) kM (Memref.isWhole_whole _) vM (Memref.isWhole_whole _) oM (Memref.isWhole_whole _) fM (Memref.isWhole_whole _) cc0_scratch1 cc0_scratch2
                X ((k0_pay44 X (k0_pay30 (wBlk wq 2)) (k0_pay31 X (wBlk wk 2)) (k0_pay32 X (wBlk wv 2))))) Q) := by
  rw [k0_part34_eq_skeleton]; unfold k0_part34_skel
  simp only [Prog.lift, Prog.bind_op, Prog.bind_ret, Prog.pure_eq_ret]
  iintro H Hk
  iapply (step_peek c _ wq wk wv O _ _) $$ H; iintro %_ H
  iapply (step_tile c _ wq wk wv O 2 7 _ rfl _ _ rfl) $$ H; iintro H
  iapply (step_k c _ wq wk wv O 3 _ _ rfl _) $$ H; iintro H
  iapply (step_v c _ wq wk wv O 3 _ _ rfl _) $$ H; iintro H
  iapply (step_q c _ wq wk wv O 3 _ _ rfl _) $$ H; iintro H
  iapply (step_peek c _ wq wk wv O _ _) $$ H; iintro %_ H
  iapply (step_tile c _ wq wk wv O 3 0 _ rfl _ _ rfl) $$ H; iintro H
  rw [wp_ret]; imodintro; iapply Hk; iexact H

theorem part35 {Q : (Σ' (v1193 : FVec F S512x1024 .f32), FVec F S512x128 .f32) → sProp 𝕄} :
    Tls c X wq wk wv O 25
      ⊢ iprop((Tls c X wq wk wv O 28 -∗ Q ⟨(k0_pay54 X), ((constant S512x128 .f32 0x00000000#32))⟩)
          -∗ wp frame (wpE (defs₀ (F := F)) 𝒱₀ (c : Thread nD τ) none) Set.univ
              (k0_part35 arg0 harg0 qM (Memref.isWhole_whole _) kM (Memref.isWhole_whole _) vM (Memref.isWhole_whole _) oM (Memref.isWhole_whole _) fM (Memref.isWhole_whole _) cc0_scratch1 cc0_scratch2
                X (k0_pay45 (wBlk wq 3)) (k0_pay46 X (wBlk wk 3)) (k0_pay47 X (wBlk wv 3)) (k0_pay49 X (wBlk wk 3) (wBlk wq 3)) (k0_pay50 X (wBlk wk 3) (wBlk wq 3))) Q) := by
  rw [k0_part35_eq_skeleton]; unfold k0_part35_skel
  simp only [Prog.lift, Prog.bind_op, Prog.bind_ret, Prog.pure_eq_ret]
  iintro H Hk
  iapply (step_peek c _ wq wk wv O _ _) $$ H; iintro %_ H
  iapply (step_tile c _ wq wk wv O 3 1 _ rfl _ _ rfl) $$ H; iintro H
  iapply (step_peek c _ wq wk wv O _ _) $$ H; iintro %_ H
  iapply (step_tile c _ wq wk wv O 3 2 _ rfl _ _ rfl) $$ H; iintro H
  iapply (step_peek c _ wq wk wv O _ _) $$ H; iintro %_ H
  iapply (step_tile c _ wq wk wv O 3 3 _ rfl _ _ rfl) $$ H; iintro H
  rw [wp_ret]; imodintro; iapply Hk; iexact H

theorem part36 {Q : (Σ' (v1229 : FVec F S512x4096 .f32), FVec F S512x4096 .f32) → sProp 𝕄} :
    Tls c X wq wk wv O 28
      ⊢ iprop((Tls c X wq wk wv O 30 -∗ Q ⟨(k0_pay57 X (k0_pay45 (wBlk wq 3)) (k0_pay46 X (wBlk wk 3))), (k0_pay58 X (k0_pay45 (wBlk wq 3)) (k0_pay46 X (wBlk wk 3)))⟩)
          -∗ wp frame (wpE (defs₀ (F := F)) 𝒱₀ (c : Thread nD τ) none) Set.univ
              (k0_part36 arg0 harg0 qM (Memref.isWhole_whole _) kM (Memref.isWhole_whole _) vM (Memref.isWhole_whole _) oM (Memref.isWhole_whole _) fM (Memref.isWhole_whole _) cc0_scratch1 cc0_scratch2
                X (k0_pay45 (wBlk wq 3)) (k0_pay46 X (wBlk wk 3)) (k0_pay47 X (wBlk wv 3)) (k0_pay54 X) ((constant S512x128 .f32 0x00000000#32))) Q) := by
  rw [k0_part36_eq_skeleton]; unfold k0_part36_skel
  simp only [Prog.lift, Prog.bind_op, Prog.bind_ret, Prog.pure_eq_ret]
  iintro H Hk
  iapply (step_peek c _ wq wk wv O _ _) $$ H; iintro %_ H
  iapply (step_tile c _ wq wk wv O 3 4 _ rfl _ _ rfl) $$ H; iintro H
  iapply (step_peek c _ wq wk wv O _ _) $$ H; iintro %_ H
  iapply (step_tile c _ wq wk wv O 3 5 _ rfl _ _ rfl) $$ H; iintro H
  rw [wp_ret]; imodintro; iapply Hk; iexact H

theorem part37 {Q : (Σ' (v1262 : FVec F S1024x128 .f32) (v1263 : FVec F S4096x128 .f32) (v1264 : FVec F S4096x128 .f32) (v1267 : FVec F S512x4096 .f32), F .f32) → sProp 𝕄} :
    Tls c X wq wk wv O 30
      ⊢ iprop((Tls c X wq wk wv O 32 -∗ Q ⟨(k0_pay61 (wBlk wq 4)), (k0_pay62 X (wBlk wk 4)), (k0_pay63 X (wBlk wv 4)), (k0_pay64 X (wBlk wk 4) (wBlk wq 4)), ((Scalar.ofBits .f32 0x3DB504F3#32))⟩)
          -∗ wp frame (wpE (defs₀ (F := F)) 𝒱₀ (c : Thread nD τ) none) Set.univ
              (k0_part37 arg0 harg0 qM (Memref.isWhole_whole _) kM (Memref.isWhole_whole _) vM (Memref.isWhole_whole _) oM (Memref.isWhole_whole _) fM (Memref.isWhole_whole _) cc0_scratch1 cc0_scratch2
                X (k0_pay45 (wBlk wq 3)) (k0_pay46 X (wBlk wk 3)) (k0_pay47 X (wBlk wv 3)) (k0_pay57 X (k0_pay45 (wBlk wq 3)) (k0_pay46 X (wBlk wk 3))) (k0_pay58 X (k0_pay45 (wBlk wq 3)) (k0_pay46 X (wBlk wk 3)))) Q) := by
  rw [k0_part37_eq_skeleton]; unfold k0_part37_skel
  simp only [Prog.lift, Prog.bind_op, Prog.bind_ret, Prog.pure_eq_ret]
  iintro H Hk
  iapply (step_peek c _ wq wk wv O _ _) $$ H; iintro %_ H
  iapply (step_tile c _ wq wk wv O 3 6 _ rfl _ _ rfl) $$ H; iintro H
  iapply (step_peek c _ wq wk wv O _ _) $$ H; iintro %_ H
  iapply (step_tile c _ wq wk wv O 3 7 _ rfl _ _ rfl) $$ H; iintro H
  iapply (step_k c _ wq wk wv O 4 _ _ rfl _) $$ H; iintro H
  iapply (step_v c _ wq wk wv O 4 _ _ rfl _) $$ H; iintro H
  iapply (step_q c _ wq wk wv O 4 _ _ rfl _) $$ H; iintro H
  rw [wp_ret]; imodintro; iapply Hk; iexact H

theorem part38 {Q : (Σ' (v1306 : FVec F S512x4096 .f32), FVec F S512 .f32) → sProp 𝕄} :
    Tls c X wq wk wv O 32
      ⊢ iprop((Tls c X wq wk wv O 34 -∗ Q ⟨(k0_pay67 X (k0_pay61 (wBlk wq 4)) (k0_pay62 X (wBlk wk 4))), (k0_pay68 X (k0_pay61 (wBlk wq 4)) (k0_pay62 X (wBlk wk 4)))⟩)
          -∗ wp frame (wpE (defs₀ (F := F)) 𝒱₀ (c : Thread nD τ) none) Set.univ
              (k0_part38 arg0 harg0 qM (Memref.isWhole_whole _) kM (Memref.isWhole_whole _) vM (Memref.isWhole_whole _) oM (Memref.isWhole_whole _) fM (Memref.isWhole_whole _) cc0_scratch1 cc0_scratch2
                X (k0_pay61 (wBlk wq 4)) (k0_pay62 X (wBlk wk 4)) (k0_pay63 X (wBlk wv 4)) (k0_pay64 X (wBlk wk 4) (wBlk wq 4)) ((Scalar.ofBits .f32 0x3DB504F3#32))) Q) := by
  rw [k0_part38_eq_skeleton]; unfold k0_part38_skel
  simp only [Prog.lift, Prog.bind_op, Prog.bind_ret, Prog.pure_eq_ret]
  iintro H Hk
  iapply (step_peek c _ wq wk wv O _ _) $$ H; iintro %_ H
  iapply (step_tile c _ wq wk wv O 4 0 _ rfl _ _ rfl) $$ H; iintro H
  iapply (step_peek c _ wq wk wv O _ _) $$ H; iintro %_ H
  iapply (step_tile c _ wq wk wv O 4 1 _ rfl _ _ rfl) $$ H; iintro H
  rw [wp_ret]; imodintro; iapply Hk; iexact H

theorem part39 {Q : (FVec F S512x1024 .f32) → sProp 𝕄} :
    Tls c X wq wk wv O 34
      ⊢ iprop((Tls c X wq wk wv O 37 -∗ Q ((k0_pay72 X)))
          -∗ wp frame (wpE (defs₀ (F := F)) 𝒱₀ (c : Thread nD τ) none) Set.univ
              (k0_part39 arg0 harg0 qM (Memref.isWhole_whole _) kM (Memref.isWhole_whole _) vM (Memref.isWhole_whole _) oM (Memref.isWhole_whole _) fM (Memref.isWhole_whole _) cc0_scratch1 cc0_scratch2
                X (k0_pay61 (wBlk wq 4)) (k0_pay62 X (wBlk wk 4)) (k0_pay63 X (wBlk wv 4)) (k0_pay67 X (k0_pay61 (wBlk wq 4)) (k0_pay62 X (wBlk wk 4))) (k0_pay68 X (k0_pay61 (wBlk wq 4)) (k0_pay62 X (wBlk wk 4)))) Q) := by
  rw [k0_part39_eq_skeleton]; unfold k0_part39_skel
  simp only [Prog.lift, Prog.bind_op, Prog.bind_ret, Prog.pure_eq_ret]
  iintro H Hk
  iapply (step_peek c _ wq wk wv O _ _) $$ H; iintro %_ H
  iapply (step_tile c _ wq wk wv O 4 2 _ rfl _ _ rfl) $$ H; iintro H
  iapply (step_peek c _ wq wk wv O _ _) $$ H; iintro %_ H
  iapply (step_tile c _ wq wk wv O 4 3 _ rfl _ _ rfl) $$ H; iintro H
  iapply (step_peek c _ wq wk wv O _ _) $$ H; iintro %_ H
  iapply (step_tile c _ wq wk wv O 4 4 _ rfl _ _ rfl) $$ H; iintro H
  rw [wp_ret]; imodintro; iapply Hk; iexact H

theorem part40 {Q : (Σ' (v1381 : FVec F S512x4096 .f32), FVec F S512x1 .f32) → sProp 𝕄} :
    Tls c X wq wk wv O 37
      ⊢ iprop((Tls c X wq wk wv O 39 -∗ Q ⟨(k0_pay75 X (k0_pay61 (wBlk wq 4)) (k0_pay62 X (wBlk wk 4))), (k0_pay76 X (k0_pay61 (wBlk wq 4)) (k0_pay62 X (wBlk wk 4)))⟩)
          -∗ wp frame (wpE (defs₀ (F := F)) 𝒱₀ (c : Thread nD τ) none) Set.univ
              (k0_part40 arg0 harg0 qM (Memref.isWhole_whole _) kM (Memref.isWhole_whole _) vM (Memref.isWhole_whole _) oM (Memref.isWhole_whole _) fM (Memref.isWhole_whole _) cc0_scratch1 cc0_scratch2
                X (k0_pay61 (wBlk wq 4)) (k0_pay62 X (wBlk wk 4)) (k0_pay63 X (wBlk wv 4)) ((k0_pay72 X))) Q) := by
  rw [k0_part40_eq_skeleton]; unfold k0_part40_skel
  simp only [Prog.lift, Prog.bind_op, Prog.bind_ret, Prog.pure_eq_ret]
  iintro H Hk
  iapply (step_peek c _ wq wk wv O _ _) $$ H; iintro %_ H
  iapply (step_tile c _ wq wk wv O 4 5 _ rfl _ _ rfl) $$ H; iintro H
  iapply (step_peek c _ wq wk wv O _ _) $$ H; iintro %_ H
  iapply (step_tile c _ wq wk wv O 4 6 _ rfl _ _ rfl) $$ H; iintro H
  rw [wp_ret]; imodintro; iapply Hk; iexact H

theorem part41 {Q : (Σ' (v1398 : FVec F S1024x128 .f32) (v1399 : FVec F S4096x128 .f32) (v1400 : FVec F S4096x128 .f32), FVec F S512x4096 .f32) → sProp 𝕄} :
    Tls c X wq wk wv O 39
      ⊢ iprop((Tls c X wq wk wv O 41 -∗ Q ⟨(k0_pay78 (wBlk wq 5)), (k0_pay79 X (wBlk wk 5)), (k0_pay80 X (wBlk wv 5)), (k0_pay82 X (wBlk wk 5) (wBlk wq 5))⟩)
          -∗ wp frame (wpE (defs₀ (F := F)) 𝒱₀ (c : Thread nD τ) none) Set.univ
              (k0_part41 arg0 harg0 qM (Memref.isWhole_whole _) kM (Memref.isWhole_whole _) vM (Memref.isWhole_whole _) oM (Memref.isWhole_whole _) fM (Memref.isWhole_whole _) cc0_scratch1 cc0_scratch2
                X (k0_pay63 X (wBlk wv 4)) (k0_pay75 X (k0_pay61 (wBlk wq 4)) (k0_pay62 X (wBlk wk 4))) (k0_pay76 X (k0_pay61 (wBlk wq 4)) (k0_pay62 X (wBlk wk 4)))) Q) := by
  rw [k0_part41_eq_skeleton]; unfold k0_part41_skel
  simp only [Prog.lift, Prog.bind_op, Prog.bind_ret, Prog.pure_eq_ret]
  iintro H Hk
  iapply (step_peek c _ wq wk wv O _ _) $$ H; iintro %_ H
  iapply (step_tile c _ wq wk wv O 4 7 _ rfl _ _ rfl) $$ H; iintro H
  iapply (step_k c _ wq wk wv O 5 _ _ rfl _) $$ H; iintro H
  iapply (step_v c _ wq wk wv O 5 _ _ rfl _) $$ H; iintro H
  iapply (step_q c _ wq wk wv O 5 _ _ rfl _) $$ H; iintro H
  iapply (step_peek c _ wq wk wv O _ _) $$ H; iintro %_ H
  iapply (step_tile c _ wq wk wv O 5 0 _ rfl _ _ rfl) $$ H; iintro H
  rw [wp_ret]; imodintro; iapply Hk; iexact H

theorem part42 {Q : (FVec F S512x4096 .f32) → sProp 𝕄} :
    Tls c X wq wk wv O 41
      ⊢ iprop((Tls c X wq wk wv O 43 -∗ Q ((k0_pay85 X (k0_pay78 (wBlk wq 5)) (k0_pay79 X (wBlk wk 5)))))
          -∗ wp frame (wpE (defs₀ (F := F)) 𝒱₀ (c : Thread nD τ) none) Set.univ
              (k0_part42 arg0 harg0 qM (Memref.isWhole_whole _) kM (Memref.isWhole_whole _) vM (Memref.isWhole_whole _) oM (Memref.isWhole_whole _) fM (Memref.isWhole_whole _) cc0_scratch1 cc0_scratch2
                X (k0_pay78 (wBlk wq 5)) (k0_pay79 X (wBlk wk 5)) (k0_pay80 X (wBlk wv 5)) (k0_pay82 X (wBlk wk 5) (wBlk wq 5))) Q) := by
  rw [k0_part42_eq_skeleton]; unfold k0_part42_skel
  simp only [Prog.lift, Prog.bind_op, Prog.bind_ret, Prog.pure_eq_ret]
  iintro H Hk
  iapply (step_peek c _ wq wk wv O _ _) $$ H; iintro %_ H
  iapply (step_tile c _ wq wk wv O 5 1 _ rfl _ _ rfl) $$ H; iintro H
  iapply (step_peek c _ wq wk wv O _ _) $$ H; iintro %_ H
  iapply (step_tile c _ wq wk wv O 5 2 _ rfl _ _ rfl) $$ H; iintro H
  rw [wp_ret]; imodintro; iapply Hk; iexact H

theorem part43 {Q : (PUnit) → sProp 𝕄} :
    Tls c X wq wk wv O 43
      ⊢ iprop((Tls c X wq wk wv O 46 -∗ Q ⟨⟩)
          -∗ wp frame (wpE (defs₀ (F := F)) 𝒱₀ (c : Thread nD τ) none) Set.univ
              (k0_part43 arg0 harg0 qM (Memref.isWhole_whole _) kM (Memref.isWhole_whole _) vM (Memref.isWhole_whole _) oM (Memref.isWhole_whole _) fM (Memref.isWhole_whole _) cc0_scratch1 cc0_scratch2
                X (k0_pay78 (wBlk wq 5)) (k0_pay79 X (wBlk wk 5)) (k0_pay80 X (wBlk wv 5)) ((k0_pay85 X (k0_pay78 (wBlk wq 5)) (k0_pay79 X (wBlk wk 5))))) Q) := by
  rw [k0_part43_eq_skeleton]; unfold k0_part43_skel
  simp only [Prog.lift, Prog.bind_op, Prog.bind_ret, Prog.pure_eq_ret]
  iintro H Hk
  iapply (step_peek c _ wq wk wv O _ _) $$ H; iintro %_ H
  iapply (step_tile c _ wq wk wv O 5 3 _ rfl _ _ rfl) $$ H; iintro H
  iapply (step_peek c _ wq wk wv O _ _) $$ H; iintro %_ H
  iapply (step_tile c _ wq wk wv O 5 4 _ rfl _ _ rfl) $$ H; iintro H
  iapply (step_peek c _ wq wk wv O _ _) $$ H; iintro %_ H
  iapply (step_tile c _ wq wk wv O 5 5 _ rfl _ _ rfl) $$ H; iintro H
  rw [wp_ret]; imodintro; iapply Hk; iexact H

theorem part44 {Q : (Σ' (v1530 : FVec F S1024x128 .f32), FVec F S1024x128 .f32) → sProp 𝕄} :
    Tls c X wq wk wv O 46
      ⊢ iprop((Tls c X wq wk wv O 48 -∗ Q ⟨(k0_pay91 (wBlk wk 6)), (k0_pay92 (wBlk wv 6))⟩)
          -∗ wp frame (wpE (defs₀ (F := F)) 𝒱₀ (c : Thread nD τ) none) Set.univ
              (k0_part44 arg0 harg0 qM (Memref.isWhole_whole _) kM (Memref.isWhole_whole _) vM (Memref.isWhole_whole _) oM (Memref.isWhole_whole _) fM (Memref.isWhole_whole _) cc0_scratch1 cc0_scratch2
                X (k0_pay78 (wBlk wq 5)) (k0_pay79 X (wBlk wk 5)) (k0_pay80 X (wBlk wv 5))) Q) := by
  rw [k0_part44_eq_skeleton]; unfold k0_part44_skel
  simp only [Prog.lift, Prog.bind_op, Prog.bind_ret, Prog.pure_eq_ret]
  iintro H Hk
  iapply (step_peek c _ wq wk wv O _ _) $$ H; iintro %_ H
  iapply (step_tile c _ wq wk wv O 5 6 _ rfl _ _ rfl) $$ H; iintro H
  iapply (step_peek c _ wq wk wv O _ _) $$ H; iintro %_ H
  iapply (step_tile c _ wq wk wv O 5 7 _ rfl _ _ rfl) $$ H; iintro H
  iapply (step_k c _ wq wk wv O 6 _ _ rfl _) $$ H; iintro H
  iapply (step_v c _ wq wk wv O 6 _ _ rfl _) $$ H; iintro H
  rw [wp_ret]; imodintro; iapply Hk; iexact H

theorem part45 {Q : (Σ' (v1534 : FVec F S1024x128 .f32) (v1535 : FVec F S4096x128 .f32) (v1536 : FVec F S4096x128 .f32) (v1570 : FVec F S512x128 .f32), FVec F S512x4096 .f32) → sProp 𝕄} :
    Tls c X wq wk wv O 48
      ⊢ iprop((Tls c X wq wk wv O 50 -∗ Q ⟨(k0_pay93 (wBlk wq 6)), (k0_pay94 X (k0_pay91 (wBlk wk 6))), (k0_pay95 X (k0_pay92 (wBlk wv 6))), (k0_pay98 X (wBlk wq 6)), ((constant S512x4096 .f32 0x00000000#32))⟩)
          -∗ wp frame (wpE (defs₀ (F := F)) 𝒱₀ (c : Thread nD τ) none) Set.univ
              (k0_part45 arg0 harg0 qM (Memref.isWhole_whole _) kM (Memref.isWhole_whole _) vM (Memref.isWhole_whole _) oM (Memref.isWhole_whole _) fM (Memref.isWhole_whole _) cc0_scratch1 cc0_scratch2
                X (k0_pay91 (wBlk wk 6)) (k0_pay92 (wBlk wv 6))) Q) := by
  rw [k0_part45_eq_skeleton]; unfold k0_part45_skel
  simp only [Prog.lift, Prog.bind_op, Prog.bind_ret, Prog.pure_eq_ret]
  iintro H Hk
  iapply (step_q c _ wq wk wv O 6 _ _ rfl _) $$ H; iintro H
  iapply (step_peek c _ wq wk wv O _ _) $$ H; iintro %_ H
  iapply (step_tile c _ wq wk wv O 6 0 _ rfl _ _ rfl) $$ H; iintro H
  iapply (step_peek c _ wq wk wv O _ _) $$ H; iintro %_ H
  iapply (step_tile c _ wq wk wv O 6 1 _ rfl _ _ rfl) $$ H; iintro H
  rw [wp_ret]; imodintro; iapply Hk; iexact H

theorem part46 {Q : (FVec F S512x4096 .f32) → sProp 𝕄} :
    Tls c X wq wk wv O 50
      ⊢ iprop((Tls c X wq wk wv O 52 -∗ Q ((k0_pay101 X (k0_pay93 (wBlk wq 6)) (k0_pay94 X (k0_pay91 (wBlk wk 6))))))
          -∗ wp frame (wpE (defs₀ (F := F)) 𝒱₀ (c : Thread nD τ) none) Set.univ
              (k0_part46 arg0 harg0 qM (Memref.isWhole_whole _) kM (Memref.isWhole_whole _) vM (Memref.isWhole_whole _) oM (Memref.isWhole_whole _) fM (Memref.isWhole_whole _) cc0_scratch1 cc0_scratch2
                X (k0_pay93 (wBlk wq 6)) (k0_pay94 X (k0_pay91 (wBlk wk 6))) (k0_pay95 X (k0_pay92 (wBlk wv 6))) (k0_pay98 X (wBlk wq 6)) ((constant S512x4096 .f32 0x00000000#32))) Q) := by
  rw [k0_part46_eq_skeleton]; unfold k0_part46_skel
  simp only [Prog.lift, Prog.bind_op, Prog.bind_ret, Prog.pure_eq_ret]
  iintro H Hk
  iapply (step_peek c _ wq wk wv O _ _) $$ H; iintro %_ H
  iapply (step_tile c _ wq wk wv O 6 2 _ rfl _ _ rfl) $$ H; iintro H
  iapply (step_peek c _ wq wk wv O _ _) $$ H; iintro %_ H
  iapply (step_tile c _ wq wk wv O 6 3 _ rfl _ _ rfl) $$ H; iintro H
  rw [wp_ret]; imodintro; iapply Hk; iexact H

theorem part47 {Q : (FVec F S512x128 .f32) → sProp 𝕄} :
    Tls c X wq wk wv O 52
      ⊢ iprop((Tls c X wq wk wv O 54 -∗ Q ((k0_pay104 X (k0_pay93 (wBlk wq 6)) (k0_pay94 X (k0_pay91 (wBlk wk 6))) (k0_pay95 X (k0_pay92 (wBlk wv 6))))))
          -∗ wp frame (wpE (defs₀ (F := F)) 𝒱₀ (c : Thread nD τ) none) Set.univ
              (k0_part47 arg0 harg0 qM (Memref.isWhole_whole _) kM (Memref.isWhole_whole _) vM (Memref.isWhole_whole _) oM (Memref.isWhole_whole _) fM (Memref.isWhole_whole _) cc0_scratch1 cc0_scratch2
                X (k0_pay93 (wBlk wq 6)) (k0_pay94 X (k0_pay91 (wBlk wk 6))) (k0_pay95 X (k0_pay92 (wBlk wv 6))) ((k0_pay101 X (k0_pay93 (wBlk wq 6)) (k0_pay94 X (k0_pay91 (wBlk wk 6)))))) Q) := by
  rw [k0_part47_eq_skeleton]; unfold k0_part47_skel
  simp only [Prog.lift, Prog.bind_op, Prog.bind_ret, Prog.pure_eq_ret]
  iintro H Hk
  iapply (step_peek c _ wq wk wv O _ _) $$ H; iintro %_ H
  iapply (step_tile c _ wq wk wv O 6 4 _ rfl _ _ rfl) $$ H; iintro H
  iapply (step_peek c _ wq wk wv O _ _) $$ H; iintro %_ H
  iapply (step_tile c _ wq wk wv O 6 5 _ rfl _ _ rfl) $$ H; iintro H
  iapply (step_peek c _ wq wk wv O _ _) $$ H; iintro %_ H
  rw [wp_ret]; imodintro; iapply Hk; iexact H

theorem part48 {Q : (Σ' (v1670 : FVec F S1024x128 .f32) (v1671 : FVec F S4096x128 .f32) (v1672 : FVec F S4096x128 .f32) (v1682 : FVec F S512x4096 .f32) (v1684 : FVec F S512x1 .f32), FVec F S512x128 .f32) → sProp 𝕄} :
    Tls c X wq wk wv O 54
      ⊢ iprop((Tls c X wq wk wv O 56 -∗ Q ⟨(k0_pay106 (wBlk wq 7)), (k0_pay107 X (wBlk wk 7)), (k0_pay108 X (wBlk wv 7)), (k0_pay109 X (wBlk wk 7) (wBlk wq 7)), (k0_pay110 X (wBlk wk 7) (wBlk wq 7)), ((constant S512x128 .f32 0x00000000#32))⟩)
          -∗ wp frame (wpE (defs₀ (F := F)) 𝒱₀ (c : Thread nD τ) none) Set.univ
              (k0_part48 arg0 harg0 qM (Memref.isWhole_whole _) kM (Memref.isWhole_whole _) vM (Memref.isWhole_whole _) oM (Memref.isWhole_whole _) fM (Memref.isWhole_whole _) cc0_scratch1 cc0_scratch2
                X (k0_pay93 (wBlk wq 6)) (k0_pay94 X (k0_pay91 (wBlk wk 6))) (k0_pay95 X (k0_pay92 (wBlk wv 6))) ((k0_pay104 X (k0_pay93 (wBlk wq 6)) (k0_pay94 X (k0_pay91 (wBlk wk 6))) (k0_pay95 X (k0_pay92 (wBlk wv 6)))))) Q) := by
  rw [k0_part48_eq_skeleton]; unfold k0_part48_skel
  simp only [Prog.lift, Prog.bind_op, Prog.bind_ret, Prog.pure_eq_ret]
  iintro H Hk
  iapply (step_tile c _ wq wk wv O 6 6 _ rfl _ _ rfl) $$ H; iintro H
  iapply (step_peek c _ wq wk wv O _ _) $$ H; iintro %_ H
  iapply (step_tile c _ wq wk wv O 6 7 _ rfl _ _ rfl) $$ H; iintro H
  iapply (step_k c _ wq wk wv O 7 _ _ rfl _) $$ H; iintro H
  iapply (step_v c _ wq wk wv O 7 _ _ rfl _) $$ H; iintro H
  iapply (step_q c _ wq wk wv O 7 _ _ rfl _) $$ H; iintro H
  rw [wp_ret]; imodintro; iapply Hk; iexact H

theorem part49 {Q : (FVec F S512x128 .f32) → sProp 𝕄} :
    Tls c X wq wk wv O 56
      ⊢ iprop((Tls c X wq wk wv O 59 -∗ Q ((k0_pay114 X (k0_pay106 (wBlk wq 7)))))
          -∗ wp frame (wpE (defs₀ (F := F)) 𝒱₀ (c : Thread nD τ) none) Set.univ
              (k0_part49 arg0 harg0 qM (Memref.isWhole_whole _) kM (Memref.isWhole_whole _) vM (Memref.isWhole_whole _) oM (Memref.isWhole_whole _) fM (Memref.isWhole_whole _) cc0_scratch1 cc0_scratch2
                X (k0_pay106 (wBlk wq 7)) (k0_pay107 X (wBlk wk 7)) (k0_pay108 X (wBlk wv 7)) (k0_pay109 X (wBlk wk 7) (wBlk wq 7)) (k0_pay110 X (wBlk wk 7) (wBlk wq 7)) ((constant S512x128 .f32 0x00000000#32))) Q) := by
  rw [k0_part49_eq_skeleton]; unfold k0_part49_skel
  simp only [Prog.lift, Prog.bind_op, Prog.bind_ret, Prog.pure_eq_ret]
  iintro H Hk
  iapply (step_peek c _ wq wk wv O _ _) $$ H; iintro %_ H
  iapply (step_tile c _ wq wk wv O 7 0 _ rfl _ _ rfl) $$ H; iintro H
  iapply (step_peek c _ wq wk wv O _ _) $$ H; iintro %_ H
  iapply (step_tile c _ wq wk wv O 7 1 _ rfl _ _ rfl) $$ H; iintro H
  iapply (step_peek c _ wq wk wv O _ _) $$ H; iintro %_ H
  iapply (step_tile c _ wq wk wv O 7 2 _ rfl _ _ rfl) $$ H; iintro H
  rw [wp_ret]; imodintro; iapply Hk; iexact H

theorem part50 {Q : (FVec F S512x4096 .f32) → sProp 𝕄} :
    Tls c X wq wk wv O 59
      ⊢ iprop((Tls c X wq wk wv O 61 -∗ Q ((k0_pay117 X (k0_pay106 (wBlk wq 7)) (k0_pay107 X (wBlk wk 7)))))
          -∗ wp frame (wpE (defs₀ (F := F)) 𝒱₀ (c : Thread nD τ) none) Set.univ
              (k0_part50 arg0 harg0 qM (Memref.isWhole_whole _) kM (Memref.isWhole_whole _) vM (Memref.isWhole_whole _) oM (Memref.isWhole_whole _) fM (Memref.isWhole_whole _) cc0_scratch1 cc0_scratch2
                X (k0_pay106 (wBlk wq 7)) (k0_pay107 X (wBlk wk 7)) (k0_pay108 X (wBlk wv 7)) ((k0_pay114 X (k0_pay106 (wBlk wq 7))))) Q) := by
  rw [k0_part50_eq_skeleton]; unfold k0_part50_skel
  simp only [Prog.lift, Prog.bind_op, Prog.bind_ret, Prog.pure_eq_ret]
  iintro H Hk
  iapply (step_peek c _ wq wk wv O _ _) $$ H; iintro %_ H
  iapply (step_tile c _ wq wk wv O 7 3 _ rfl _ _ rfl) $$ H; iintro H
  iapply (step_peek c _ wq wk wv O _ _) $$ H; iintro %_ H
  iapply (step_tile c _ wq wk wv O 7 4 _ rfl _ _ rfl) $$ H; iintro H
  rw [wp_ret]; imodintro; iapply Hk; iexact H

theorem part51 {Q : (FVec F S512x128 .f32) → sProp 𝕄} :
    Tls c X wq wk wv O 61
      ⊢ iprop((Tls c X wq wk wv O 63 -∗ Q ((k0_pay120 X (k0_pay106 (wBlk wq 7)) (k0_pay107 X (wBlk wk 7)) (k0_pay108 X (wBlk wv 7)))))
          -∗ wp frame (wpE (defs₀ (F := F)) 𝒱₀ (c : Thread nD τ) none) Set.univ
              (k0_part51 arg0 harg0 qM (Memref.isWhole_whole _) kM (Memref.isWhole_whole _) vM (Memref.isWhole_whole _) oM (Memref.isWhole_whole _) fM (Memref.isWhole_whole _) cc0_scratch1 cc0_scratch2
                X (k0_pay106 (wBlk wq 7)) (k0_pay107 X (wBlk wk 7)) (k0_pay108 X (wBlk wv 7)) ((k0_pay117 X (k0_pay106 (wBlk wq 7)) (k0_pay107 X (wBlk wk 7))))) Q) := by
  rw [k0_part51_eq_skeleton]; unfold k0_part51_skel
  simp only [Prog.lift, Prog.bind_op, Prog.bind_ret, Prog.pure_eq_ret]
  iintro H Hk
  iapply (step_peek c _ wq wk wv O _ _) $$ H; iintro %_ H
  iapply (step_tile c _ wq wk wv O 7 5 _ rfl _ _ rfl) $$ H; iintro H
  iapply (step_peek c _ wq wk wv O _ _) $$ H; iintro %_ H
  iapply (step_tile c _ wq wk wv O 7 6 _ rfl _ _ rfl) $$ H; iintro H
  rw [wp_ret]; imodintro; iapply Hk; iexact H

end Cert.Attn

end
-- ==== Proof.Body.lean ====
/-
The kernel's body: from the start to the end, by its parts.
-/
module

public import proofs.«01_k».proof.Proof.Gather
public import proofs.«01_k».proof.Proof.Start
public import proofs.«01_k».proof.Proof.Heads

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (Bool × Fin 15) → ℕ) (c : Dev nD)
variable (wq wk wv : Vec F S1024x1024 .f32) (O : Vec F S4096x1024 .f32)

/-- What the gather leaves. -/
def Gd : sProp 𝕄 :=
  iprop(owed c 15 ∗ (((c : Thread nD τ).loc cc0_scratch0) ↦{fullShare} XF m)
    ∗ (bigSep Finset.univ fun h : Fin 15 => iprop(semVal (xCell c false h) 0 ∗ semVal (xCell c true h) 0)))

theorem read_whole_x (f : (cc0_scratch0 : Ref sig .tc).ty.Contents (Elt F)) :
    (fM : Memref sig .tc .vmem S4096x1024 .f32).view.readAt (Elt F)
      (Rect.unit (s := S4096x1024) ![0, 0] S4096x1024.size inb_S4096x1024_S4096x1024_0_0).toLoadRect f = f :=
  Memref.readAt_unit_zero (Elt F) cc0_scratch0 (funext fun a => by fin_cases a <;> rfl) _ f

theorem part23 (arg0 : Memref sig .tc .vmem S1x256x1024 .f32) (harg0 : arg0.IsWhole) (v13 : BitVec 32)
    {Q : (Σ' (v712 : Vec F S4096x1024 .f32) (v718 : FVec F S1024x128 .f32) (v719 : FVec F S4096x128 .f32) (v720 : FVec F S4096x128 .f32), FVec F S512x4096 .f32) → sProp 𝕄} :
    iprop(StC m K c 14 ∗ Tls c (XF m) wq wk wv O 0)
      ⊢ iprop(((Gd m c ∗ Tls c (XF m) wq wk wv O 1) -∗ Q ⟨(XF m), (k0_pay2 (wBlk wq 0)), (k0_pay3 (XF m) (wBlk wk 0)), (k0_pay4 (XF m) (wBlk wv 0)), (k0_pay6 (XF m) (wBlk wk 0) (wBlk wq 0))⟩)
          -∗ wp frame (wpE (defs₀ (F := F)) 𝒱₀ (c : Thread nD τ) none) Set.univ
              (k0_part23 arg0 harg0 qM (Memref.isWhole_whole _) kM (Memref.isWhole_whole _) vM (Memref.isWhole_whole _) oM (Memref.isWhole_whole _) fM (Memref.isWhole_whole _)
                cc0_scratch1 cc0_scratch2 c v13) Q) := by
  rw [k0_part23_eq_skeleton]; unfold k0_part23_skel
  simp only [Prog.lift, Prog.bind_op, Prog.bind_ret, Prog.pure_eq_ret]
  iintro ⟨HC, H⟩ Hk
  iapply (step_recv m K c 14 _ rfl (by exact credit_eq _ _)) $$ HC; iintro HA
  ihave HG := (gathered m K c) $$ HA
  icases HG with ⟨HO, Hx, Hs⟩
  iapply (wp_load 𝒱₀ (c : Thread nD τ) none Set.univ (m := fM) (Finset.subset_univ _)) $$ Hx; iintro Hx
  rw [read_whole_x]
  iapply (step_k c _ wq wk wv O 0 _ _ rfl _) $$ H; iintro H
  iapply (step_v c _ wq wk wv O 0 _ _ rfl _) $$ H; iintro H
  iapply (step_q c _ wq wk wv O 0 _ _ rfl _) $$ H; iintro H
  iapply (step_peek c (XF m) wq wk wv O _ _) $$ H; iintro %_ H
  iapply (step_tile c (XF m) wq wk wv O 0 0 _ rfl _ _ rfl) $$ H; iintro H
  rw [wp_ret]; imodintro; iapply Hk
  isplitr [H]
  · unfold Gd
    isplitl [HO]; · iexact HO
    isplitl [Hx]; · iexact Hx
    iexact Hs
  iexact H

theorem body_run {Q : PUnit → sProp 𝕄} :
    iprop(St0 m K c ∗ xPts m c ∗ Tls c (XF m) wq wk wv O 0)
      ⊢ iprop(((Gd m c ∗ semVal (barCell c) 0 ∗ xPts m c ∗ Tls c (XF m) wq wk wv O 64) -∗ Q ⟨⟩)
          -∗ wp frame (wpE (defs₀ (F := F)) 𝒱₀ (c : Thread nD τ) none) Set.univ
              (cc0_body (Memref.whole cc0_stg0_0) (Memref.isWhole_whole _) qM (Memref.isWhole_whole _) kM (Memref.isWhole_whole _) vM (Memref.isWhole_whole _)
                oM (Memref.isWhole_whole _) fM (Memref.isWhole_whole _) cc0_scratch1 cc0_scratch2) Q) := by
  rw [cc0_body_eq_skeleton]; unfold cc0_body_skel
  iintro ⟨H, Hx, Ht⟩ Hk
  rw [wp_bind]; iapply (part1 m K c) $$ H; iintro %v2 %v13 %v24 H
  rw [wp_bind]; iapply (part2 m K c) $$ [H Hx]; · { isplitl [H] <;> iassumption }
  iintro %v59 ⟨H, Hz, Hx⟩
  rw [wp_bind]; iapply (part3 m K c) $$ H; iintro %r3 H
  rw [wp_bind]; iapply (part4 m K c) $$ H; iintro %r4 H
  rw [wp_bind]; iapply (part5 m K c) $$ H; iintro %r5 H
  rw [wp_bind]; iapply (part6 m K c) $$ H; iintro %r6 H
  rw [wp_bind]; iapply (part7 m K c) $$ H; iintro %r7 H
  rw [wp_bind]; iapply (part8 m K c) $$ H; iintro %r8 H
  rw [wp_bind]; iapply (part9 m K c) $$ H; iintro %r9 H
  rw [wp_bind]; iapply (part10 m K c) $$ H; iintro %r10 H
  rw [wp_bind]; iapply (part11 m K c) $$ H; iintro %r11 H
  rw [wp_bind]; iapply (part12 m K c) $$ H; iintro %r12 H
  rw [wp_bind]; iapply (part13 m K c) $$ H; iintro %r13 H
  rw [wp_bind]; iapply (part14 m K c) $$ H; iintro %r14 H
  rw [wp_bind]; iapply (part15 m K c) $$ H; iintro %r15 H
  rw [wp_bind]; iapply (part16 m K c) $$ H; iintro %r16 H
  rw [wp_bind]; iapply (part17 m K c) $$ H; iintro %r17 H
  rw [wp_bind]; iapply (part18 m K c) $$ H; iintro %r18 H
  rw [wp_bind]; iapply (part19 m K c) $$ H; iintro %r19 H
  rw [wp_bind]; iapply (part20 m K c) $$ H; iintro %r20 H
  rw [wp_bind]; iapply (part21 m K c) $$ H; iintro %r21 H
  rw [wp_bind]; iapply (part22 m K c) $$ H; iintro %r22 H
  rw [wp_bind]; iapply (part23 m K c wq wk wv O) $$ [H Ht]; · { isplitl [H] <;> iassumption }
  iintro ⟨HG, H⟩
  rw [wp_bind]; iapply (part24 c (XF m) wq wk wv O) $$ H; iintro H
  rw [wp_bind]; iapply (part25 c (XF m) wq wk wv O) $$ H; iintro H
  rw [wp_bind]; iapply (part26 c (XF m) wq wk wv O) $$ H; iintro H
  rw [wp_bind]; iapply (part27 c (XF m) wq wk wv O) $$ H; iintro H
  rw [wp_bind]; iapply (part28 c (XF m) wq wk wv O) $$ H; iintro H
  rw [wp_bind]; iapply (part29 c (XF m) wq wk wv O) $$ H; iintro H
  rw [wp_bind]; iapply (part30 c (XF m) wq wk wv O) $$ H; iintro H
  rw [wp_bind]; iapply (part31 c (XF m) wq wk wv O) $$ H; iintro H
  rw [wp_bind]; iapply (part32 c (XF m) wq wk wv O) $$ H; iintro H
  rw [wp_bind]; iapply (part33 c (XF m) wq wk wv O) $$ H; iintro H
  rw [wp_bind]; iapply (part34 c (XF m) wq wk wv O) $$ H; iintro H
  rw [wp_bind]; iapply (part35 c (XF m) wq wk wv O) $$ H; iintro H
  rw [wp_bind]; iapply (part36 c (XF m) wq wk wv O) $$ H; iintro H
  rw [wp_bind]; iapply (part37 c (XF m) wq wk wv O) $$ H; iintro H
  rw [wp_bind]; iapply (part38 c (XF m) wq wk wv O) $$ H; iintro H
  rw [wp_bind]; iapply (part39 c (XF m) wq wk wv O) $$ H; iintro H
  rw [wp_bind]; iapply (part40 c (XF m) wq wk wv O) $$ H; iintro H
  rw [wp_bind]; iapply (part41 c (XF m) wq wk wv O) $$ H; iintro H
  rw [wp_bind]; iapply (part42 c (XF m) wq wk wv O) $$ H; iintro H
  rw [wp_bind]; iapply (part43 c (XF m) wq wk wv O) $$ H; iintro H
  rw [wp_bind]; iapply (part44 c (XF m) wq wk wv O) $$ H; iintro H
  rw [wp_bind]; iapply (part45 c (XF m) wq wk wv O) $$ H; iintro H
  rw [wp_bind]; iapply (part46 c (XF m) wq wk wv O) $$ H; iintro H
  rw [wp_bind]; iapply (part47 c (XF m) wq wk wv O) $$ H; iintro H
  rw [wp_bind]; iapply (part48 c (XF m) wq wk wv O) $$ H; iintro H
  rw [wp_bind]; iapply (part49 c (XF m) wq wk wv O) $$ H; iintro H
  rw [wp_bind]; iapply (part50 c (XF m) wq wk wv O) $$ H; iintro H
  rw [wp_bind]; iapply (part51 c (XF m) wq wk wv O) $$ H; iintro H
  simp only [Prog.lift, Prog.bind_op, Prog.bind_ret, Prog.pure_eq_ret]
  iapply (step_peek c (XF m) wq wk wv O _ _) $$ H; iintro %_ H
  iapply (step_tile c (XF m) wq wk wv O 7 7 _ rfl _ _ rfl) $$ H; iintro H
  rw [wp_ret]; imodintro; iapply Hk
  isplitl [HG]; · iexact HG
  isplitl [Hz]; · iexact Hz
  isplitl [Hx] <;> iassumption

end Cert.Attn

end
-- ==== Proof.Launch.lean ====
/-
The run of the program on its sixteen devices: the body's obligation, the semaphores' ghost state dealt out around the
ring, and what every run leaves.
-/
module

public import proofs.«01_k».proof.Proof.Body
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The data of the one call -/

/-- Device `c`'s columns of the three weights, as staged. -/
def wqs (c : Dev nD) : (cc0_stg1_0 : Ref sig .tc).ty.Contents (Elt F) := (win0_1.blk (0 : Fin 1)).view.read (Elt F) (m ((c : Thread nD τ).loc main_arg1))
def wks (c : Dev nD) : (cc0_stg2_0 : Ref sig .tc).ty.Contents (Elt F) := (win0_2.blk (0 : Fin 1)).view.read (Elt F) (m ((c : Thread nD τ).loc main_arg2))
def wvs (c : Dev nD) : (cc0_stg3_0 : Ref sig .tc).ty.Contents (Elt F) := (win0_3.blk (0 : Fin 1)).view.read (Elt F) (m ((c : Thread nD τ).loc main_arg3))
/-- Its result. -/
def outs (c : Dev nD) : (cc0_stg4_0 : Ref sig .tc).ty.Contents (Elt F) := attn (XF m) (wqs m c) (wks m c) (wvs m c)

def start (c : Dev nD) : sProp 𝕄 := iprop(∃ K, Known m K ∗ gate c ∗ bigSep Finset.univ fun h : Fin 15 => half c h)

def Φ₀ (c : Dev nD) : sProp 𝕄 := iprop(start m c ∗ ∃ f, ((c : Thread nD τ).loc cc0_scratch0) ↦{fullShare} f)
def Φ₁ (c : Dev nD) : sProp 𝕄 :=
  iprop((((c : Thread nD τ).loc cc0_scratch0) ↦{fullShare} XF m)
    ∗ (bigSep Finset.univ fun h : Fin 15 => iprop(semVal (xCell c false h) 0 ∗ semVal (xCell c true h) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wqs m c
    | ⟨2, _⟩ => wks m c
    | ⟨3, _⟩ => wvs m c
    | ⟨4, _⟩ => outs m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_in (w : Fin cfg0.W) (hw : w.val < 4) (t : Fin cfg0.N) : (cfg0.win w).fetch t = true := by
  rw [fin_N0 t]
  match w with
  | ⟨0, _⟩ => rfl
  | ⟨1, _⟩ => rfl
  | ⟨2, _⟩ => rfl
  | ⟨3, _⟩ => rfl
  | ⟨4, _⟩ => exact absurd hw (Nat.lt_irrefl 4)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def preB (c : Dev nD) : sProp 𝕄 :=
  iprop(Φ₀ m c ∗ (dats m ρ 0 c).owesAt () t0_0.castSucc
    ∗ (∃ d, held c cc0_stg0_0 ((dats m ρ 0 c).before (0 : Fin 5) t0_0 d)) ∗ (∃ d, held c cc0_stg1_0 ((dats m ρ 0 c).before (1 : Fin 5) t0_0 d))
    ∗ (∃ d, held c cc0_stg2_0 ((dats m ρ 0 c).before (2 : Fin 5) t0_0 d)) ∗ (∃ d, held c cc0_stg3_0 ((dats m ρ 0 c).before (3 : Fin 5) t0_0 d))
    ∗ (∃ d, held c cc0_stg4_0 ((dats m ρ 0 c).before (4 : Fin 5) t0_0 d)))
def postB (c : Dev nD) : sProp 𝕄 :=
  iprop(Φ₁ m c ∗ (dats m ρ 0 c).owesAt () t0_0.succ ∗ held c cc0_stg0_0 (xstg m c) ∗ held c cc0_stg1_0 (wqs m c)
    ∗ held c cc0_stg2_0 (wks m c) ∗ held c cc0_stg3_0 (wvs m c) ∗ held c cc0_stg4_0 (outs m c))

theorem before_x (c : Dev nD) (d) : (dats m ρ 0 c).before (0 : Fin 5) t0_0 d = xstg m c := by
  unfold Dat.before; rw [if_pos (fetch_in (0 : Fin 5) (by decide) t0_0)]; rfl
theorem before_q (c : Dev nD) (d) : (dats m ρ 0 c).before (1 : Fin 5) t0_0 d = wqs m c := by
  unfold Dat.before; rw [if_pos (fetch_in (1 : Fin 5) (by decide) t0_0)]; rfl
theorem before_k (c : Dev nD) (d) : (dats m ρ 0 c).before (2 : Fin 5) t0_0 d = wks m c := by
  unfold Dat.before; rw [if_pos (fetch_in (2 : Fin 5) (by decide) t0_0)]; rfl
theorem before_v (c : Dev nD) (d) : (dats m ρ 0 c).before (3 : Fin 5) t0_0 d = wvs m c := by
  unfold Dat.before; rw [if_pos (fetch_in (3 : Fin 5) (by decide) t0_0)]; rfl

theorem body_sound (c : Dev nD) :
    preB m ρ c ⊢ wp frame (wpE (defs₀ (F := F)) 𝒱₀ c none) Set.univ
      (cc0_body (Memref.whole cc0_stg0_0) (Memref.isWhole_whole _) qM (Memref.isWhole_whole _) kM (Memref.isWhole_whole _) vM (Memref.isWhole_whole _)
        oM (Memref.isWhole_whole _) fM (Memref.isWhole_whole _) cc0_scratch1 cc0_scratch2) (fun _ => postB m ρ c) := by
  unfold preB Φ₀ start
  iintro ⟨⟨⟨%K, HK, Hg, Hh⟩, Hf⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = xstg m c := h0.trans (before_x m ρ c d0)
  have e1 : g1 = wqs m c := h1.trans (before_q m ρ c d1)
  have e2 : g2 = wks m c := h2.trans (before_k m ρ c d2)
  have e3 : g3 = wvs m c := h3.trans (before_v m ρ c d3)
  subst e0 e1 e2 e3
  unfold Dat.owesAt owesWithin
  icases Ho with ⟨%W, %hW, HO⟩
  rw [show (dats m ρ 0 c).owed t0_0.castSucc = O₀ c from rfl]
  iapply (body_run m K c (wqs m c) (wks m c) (wvs m c) g4) $$ [HK Hg Hh Hf HO H0 H1 H2 H3 H4]
  · isplitl [HK Hg Hh Hf HO]
    · unfold St0
      isplitl [HK]; · iexact HK
      isplitl [HO]; · iexists W; iexact HO
      isplitl [Hg]; · iexact Hg
      isplitl [Hh]; · iexact Hh
      iexact Hf
    isplitl [H0]; · unfold xPts; iexact H0
    unfold Tls
    isplitl [H1]; · iexact H1
    isplitl [H2]; · iexact H2
    isplitl [H3]; · iexact H3
    rw [fill_zero]; iexact H4
  unfold Gd owed xPts Tls
  rw [Osum_end, fill_all]
  iintro ⟨⟨⟨%W', HO⟩, Hx, Hs⟩, Hz, H0, H1, H2, H3, H4⟩
  unfold postB Φ₁ Dat.owesAt owesWithin
  rw [show (dats m ρ 0 c).owed t0_0.succ = 0 from rfl]
  isplitl [Hx Hs Hz]
  · isplitl [Hx]; · iexact Hx
    isplitl [Hs] <;> iassumption
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

set_option maxRecDepth 8000 in
theorem body_obligation (c : Dev nD) : BodyObligation (dats (F := F) m ρ 0 c) (defs₀ (F := F)) 𝒱₀ () Set.univ := fun t => by
  rw [fin_N0 t, bigSep_W0, bigSep_W0]
  simp only [owns_whole]
  exact body_sound m ρ c

/-! ## The ghost state -/

theorem ownSemFacts : OwnSemFacts cfg0.spec osem :=
  ⟨by decide +kernel, by decide +kernel, by decide +kernel⟩

theorem share_eq (c : Dev nD) (w : Fin cfg0.W) : (dats m ρ 0 c).share w = fullShare := by unfold Dat.share; split <;> rfl

theorem csem_injective : Function.Injective csem := by decide +kernel
theorem kcell_injective : Function.Injective (kcell : Dev nD × Option (Bool × Fin 15) → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- A device's own duties: the two on its barrier, one on each of its hops' semaphores. -/
def tokOf (cj : Dev nD × (Bool ⊕ (Bool × Fin 15))) : GSem nD τ sig × ℕ × Bool := match cj.2 with
  | .inl d => (barCell cj.1, 0, d)
  | .inr bh => (xCell cj.1 bh.1 bh.2, 0, false)
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have h2 := congrArg (fun x : GSem nD τ sig × ℕ × Bool => x.1.2) h
  have h3 := congrArg (fun x : GSem nD τ sig × ℕ × Bool => x.2.2) h
  cases j with
  | inl d => cases j' with
    | inl d' => rw [show d = d' from h3]
    | inr bh => exact absurd h2 (fun h' => by cases h')
  | inr bh => cases j' with
    | inl d' => exact absurd h2 (fun h' => by cases h')
    | inr bh' =>
      have h4 : some (bh.1, bh.2) = some (bh'.1, bh'.2) := csem_injective h2
      rw [show bh = bh' from Option.some.inj h4]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

omit [FloatOps F] in
theorem pairs_split (Φ : Bool × Fin 15 → sProp 𝕄) :
    bigSep Finset.univ Φ = bigSep Finset.univ fun h : Fin 15 => iprop(Φ (false, h) ∗ Φ (true, h)) := by
  rw [bigSep_univ_prod, bigSep_univ_eq_bigSepL [false, true] (by decide) (by decide), bigSepL_cons_cons, bigSepL_singleton, bigSep_sep']
  rfl
omit [FloatOps F] in
theorem cells_split (Φ : Option (Bool × Fin 15) → sProp 𝕄) :
    bigSep Finset.univ Φ = iprop(Φ none ∗ bigSep Finset.univ fun h : Fin 15 => iprop(Φ (some (false, h)) ∗ Φ (some (true, h)))) := by
  rw [← pairs_split fun bh => Φ (some bh), bigSep_univ_equiv (Equiv.optionEquivSumPUnit.{0} _).symm Φ, BI.bigSep_univ_sum]
  refine (BI.sep_comm.antisymm BI.sep_comm).trans ?_
  congr 1
  rw [Finset.univ_unique, bigSep_singleton]
  rfl

/-- The tokens of device `c`'s own duties. -/
def toks (c : Dev nD) : sProp 𝕄 :=
  iprop((dutyTok ER (barCell c) 0 false ∗ dutyTok ER (barCell c) 0 true)
    ∗ bigSep Finset.univ fun h : Fin 15 => iprop(dutyTok ER (xCell c false h) 0 false ∗ dutyTok ER (xCell c true h) 0 false))

/-- What device `c` is dealt at the launch. -/
def G (c : Dev nD) : sProp 𝕄 :=
  iprop((bigSep Finset.univ fun k => roundState ER (ringRd m) (kcell (c, k)) 0)
    ∗ (bigSep Finset.univ fun k => iprop(atPos ER (kcell (c, k)) 0 ∅ 0 ∗ reached ER (kcell (c, k)) 0)) ∗ toks c)

/-- The tokens of the duties device `c` pays, its place on each of its semaphores. -/
def payToks (c : Dev nD) : sProp 𝕄 :=
  iprop((dutyTok ER (barCell (prv c)) 0 true ∗ dutyTok ER (barCell (nxt c)) 0 false)
    ∗ bigSep Finset.univ fun h : Fin 15 => iprop(dutyTok ER (xCell c false h) 0 false ∗ dutyTok ER (xCell (nxt c) true h) 0 false))
def linear (c : Dev nD) : sProp 𝕄 := iprop((bigSep Finset.univ fun k => atPos ER (kcell (c, k)) 0 ∅ 0) ∗ payToks c)
/-- What the deal is turned into. -/
def G' (c : Dev nD) : sProp 𝕄 := iprop(∃ K, records m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [BI.bigSep_univ_sum, bigSep_univ_eq_bigSepL [false, true] (by decide) (by decide), bigSepL_cons_cons, bigSepL_singleton, pairs_split]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (ownSems0 (Ix := Unit) (Name := ℕ) (U := UU) (Lvl := ℕ) (Val := Elt F) (τ := τ) osem c : sProp 𝕄)
    = bigSep Finset.univ fun h : Fin 15 => iprop(semVal (xCell c false h) 0 ∗ semVal (xCell c true h) 0) := by
  unfold ownSems0; rw [pairs_split]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, cells_split]
  iintro ⟨HS, HB⟩
  isplitl [HB]; · iexact HB
  iexact HS

theorem core_alloc (c : Dev nD) :
    iprop(ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt round the ring, each to the device that pays the duty. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 15 => dutyTok ER (xCell c true h) 0 false : sProp 𝕄))]
  iintro ⟨⟨H1, H2⟩, H3, H4⟩
  isplitl [H1 H2]
  · isplitl [H2]; · iexact H2
    iexact H1
  isplitl [H3]; · iexact H3
  iexact H4

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem name_all (K : Dev nD × Option (Bool × Fin 15) → ℕ) (c : Dev nD) : iprop(records m K ∗ linear c) ⊢ G' m c := by
  unfold G'; iintro H; iexists K; iexact H

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (Bool × Fin 15) => iprop(∃ κ : ℕ, cellInv ER (ringRd m) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 15) => (reached ER (kcell ck) 0 : sProp 𝕄))]
  iintro ⟨HI, ⟨Hat, #HR⟩, Htok⟩
  ihave HK := (BI.bigSep_exists_pi Finset.univ (fun (ck : Dev nD × Option (Bool × Fin 15)) (κ : ℕ) => (cellInv ER (ringRd m) κ (kcell ck) : sProp 𝕄))) $$ HI
  icases HK with ⟨%K, #HI⟩
  ihave Htk := (toks_around (F := F)) $$ Htok
  iapply (with_persistent (R := records m K) fun c _ => name_all m K c)
  isplitr
  · unfold records; isplitl; · iexact HI
    iexact HR
  · unfold linear
    rw [bigSep_sep']
    isplitl [Hat]; · iexact Hat
    iexact Htk

theorem glob : (bigSep Finset.univ fun c => iprop(ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
/-- The credits a device waits for: two units on its barrier, one block's on each hop's receive semaphore. -/
theorem creds (c : Dev nD) : (launchCred O₀ c : sProp 𝕄)
    ⊢ iprop(cred (tallyAt (barCell c) () 2) ∗ bigSep Finset.univ fun h : Fin 15 => cred (tallyAt (xCell c true h) () N)) := by
  have e : (O₀ : Dev nD → CellTallies nD τ sig Unit) = fun d =>
      ((fun d => (fun d => ∑ j ∈ Finset.univ.filter (fun j : Fin 15 => 0 ≤ j.val), (fun (j : Fin 15) (d : Dev nD) => tallyAt (xCell (nxt d) true j) () N) j d) d
        + (fun d => tallyAt (barCell (nxt d)) () 1) d) d) + (fun d => tallyAt (barCell (prv d)) () 1) d := rfl
  rw [e, launchCred_add, launchCred_add, launchCred_sum, Finset.filter_true_of_mem (fun j _ => Nat.zero_le _),
    show (2 : ℕ) = 1 + 1 from rfl, ← tallyAt_add]
  iintro ⟨⟨Hx, Hn⟩, Hp⟩
  isplitl [Hn Hp]
  · iapply (cred_add _ _).2
    isplitl [Hn]
    · iapply (launchCred_tallyAt (SemLoc.reg barS) nxt prv nxt_prv prv_nxt () 1 c); iexact Hn
    · iapply (launchCred_tallyAt (SemLoc.reg barS) prv nxt prv_nxt nxt_prv () 1 c); iexact Hp
  have hx : (bigSep Finset.univ fun h : Fin 15 => (launchCred (fun d : Dev nD => tallyAt (xCell (nxt d) true h) () N) c : sProp 𝕄))
      ⊢ bigSep Finset.univ fun h : Fin 15 => cred (tallyAt (xCell c true h) () N) :=
    bigSep_mono fun h _ => launchCred_tallyAt (SemLoc.dma (xS true h)) nxt prv nxt_prv prv_nxt () N c
  iapply hx; iexact Hx

/-! ## The side conditions -/

theorem start_intro (c : Dev nD) :
    iprop(unscopedRestP Prefetch.none cfg0.spec c (fun b => m ((c : Thread nD τ).loc b)) ∗ levAts L lv
        ∗ launchCred O₀ c ∗ prngReg c (ρ c) ∗ G' m c)
      ⊢ |={Set.univ}=> iprop(start m c ∗ emp) := by
  unfold G' linear payToks
  rw [cells_split]
  iintro ⟨-, Hlev, Hcr, -, ⟨%K, HR, ⟨HaB, Hax⟩, ⟨HtP, HtN⟩, Htx⟩⟩
  ihave Hc := (creds (F := F) c) $$ Hcr
  icases Hc with ⟨HcB, Hcx⟩
  imodintro
  isplitl
  · unfold start Known gate
    iexists K
    isplitl [HR Hlev]; · (isplitl [HR] <;> iassumption)
    isplitl [HtP HtN HaB HcB]
    · isplitl [HtP]; · iexact HtP
      isplitl [HtN]; · iexact HtN
      isplitl [HaB] <;> iassumption
    unfold half
    simp only [bigSep_sep']
    icases Hax with ⟨Ha1, Ha2⟩
    icases Htx with ⟨Ht1, Ht2⟩
    isplitl [Ha1]; · iexact Ha1
    isplitl [Ha2]; · iexact Ha2
    isplitl [Ht1]; · iexact Ht1
    isplitl [Ht2]; · iexact Ht2
    iexact Hcx
  · iempintro

theorem phi0_intro (c : Dev nD) :
    iprop(start m c ∗ prefHeld Prefetch.none c (fun _ => fullShare.right) (fun k => k.elim0) ∗ scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ ownSems0 osem c ∗ scopedRest cfg0.spec c) := by
  rw [show (dats m ρ 0 c).Φ (Fin.last cfg0.N) = Φ₁ m c from rfl, scopedRest0_eq, ownSems0_eq, unscopedSems0_eq]
  unfold Φ₁
  iintro ⟨Hr, Hs, HB⟩
  isplitl [HB]; · iexact HB
  isplitl [Hs]; · iexact Hs
  iexists _; iexact Hr

theorem waits (c : Dev nD) : (levAts L lv : sProp 𝕄) ⊢ cellsWaits cfgs (dats m ρ) () 0 c :=
  cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every run ends, each device's arrays at `finalA`, every counter at zero. -/
theorem run_main : θ_run defs (onTc (τ := τ) (main (F := F))) (s₀ m ρ) (fun r => QC m ρ r ∧ r.2.sem = fun _ => 0) :=
  θ_run_region_owing_glob_pf (fun p => (cfgs p).toPCfg) (fun p => (cfgs p).toPCfg_adm) (dats m ρ) () cellOf_inj (0 : Fin 1)
    winFacts0.to₀ ownSemFacts (PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_in (c : Dev nD) (w : Fin 5) (hw : (cfg0.win w).isOut = false) :
    finalA m ρ c w = (s₀ m ρ).mem ((cfg0.win w).arr.view.loc (c : Thread nD τ)) := (dats (F := F) m ρ 0 c).arrAt_in w hw _

/-- The result array holds the attention of the device's heads. -/
theorem finalA_out (c : Dev nD) : (win0_4.blk (0 : Fin 1)).view.read (Elt F) (finalA m ρ c (4 : Fin 5)) = outs m c := by
  unfold finalA
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

end Cert.Attn

end
-- ==== Proof.Spec.lean ====
/-
One number of an attention head, over the extended reals: the row's scores against every key, their exponentials after
the greatest is taken off, the average of the values under them. Both the kernel's tiles and the reference are read as it.
-/
module

public import Idealize.ShloMosaic.PureOps.Ideal.Laws

@[expose] public section

noncomputable section

namespace Cert.Attn

open Idealize.ShloMosaic

/-- The scaled product of a query with each key. -/
def score (q : Fin 128 → EReal) (k : Fin 4096 → Fin 128 → EReal) (j : Fin 4096) : EReal :=
  (∑ e, q e * k j e) * Ideal.ofBits .f32 0x3DB504F3#32

/-- The exponential of what a score lacks of the row's greatest. -/
def weight (s : Fin 4096 → EReal) (j : Fin 4096) : EReal :=
  Ideal.exp (s j - Finset.univ.fold max (Ideal.ofBits .f32 0xFF800000#32) s)

/-- The average of the values under the weights. -/
def average (p v : Fin 4096 → EReal) : EReal := Ideal.div (∑ j, p j * v j) (∑ j, p j)

/-- Attention at one element: query `q`, keys `k`, one column `v` of the values. -/
def att (q : Fin 128 → EReal) (k : Fin 4096 → Fin 128 → EReal) (v : Fin 4096 → EReal) : EReal :=
  average (weight (score q k)) v

end Cert.Attn

end
-- ==== Proof.TileValue.lean ====
/-
A tile of the kernel's result, element by element, over the extended reals.
-/
module

public import proofs.«01_k».proof.Proof.Tiles
public import proofs.«01_k».proof.Proof.Spec
public import Idealize.ShloMosaic.Lib.MatmulPlain
public import Idealize.ShloMosaic.Lib.ValueIdx
public import Idealize.ShloMosaic.Lib.Pipeline.Value

@[expose] public section

noncomputable section

namespace Cert.Attn

open Cert.KernelIdeal Cert.KernelIdeal.Gen
open Idealize.ShloMosaic Idealize.ShloMosaic.ValueIdx

/-- A product into zeros, read at a row and a column. -/
theorem plain_at {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (c : Fin N) :
    matmul d none a b (constant ⟨2, ![M, N]⟩ .f32 0x00000000#32) (ix2 r c) = ∑ k : Fin K, a (ix2 r k) * b (ix2 k c) := by
  subst hd
  refine (Ideal.matmul_plain_apply none a b _ r c).trans ?_
  rw [constant_apply, Ideal.ofBits_zero_f32, zero_add]
theorem trans_at {M K N : ℕ} (d : DotDims ⟨2, ![M, K]⟩ ⟨2, ![N, K]⟩ ⟨2, ![M, N]⟩) (hd : d = DotDims.transposedRhs M K N)
    (a : FVec Ideal ⟨2, ![M, K]⟩ .f32) (b : FVec Ideal ⟨2, ![N, K]⟩ .f32) (r : Fin M) (c : Fin N) :
    matmul d none a b (constant ⟨2, ![M, N]⟩ .f32 0x00000000#32) (ix2 r c) = ∑ k : Fin K, a (ix2 r k) * b (ix2 c k) := by
  subst hd
  refine (Ideal.matmul_transposedRhs_apply none a b _ r c).trans ?_
  rw [constant_apply, Ideal.ofBits_zero_f32, zero_add]

theorem proj_at (X : Vec Ideal S4096x1024 .f32) (w : Vec Ideal S1024x128 .f32) (r : Fin 4096) (d : Fin 128) :
    proj X w (ix2 r d) = ∑ e : Fin 1024, X (ix2 r e) * w (ix2 e d) := by
  unfold proj
  rw [shapeCast_self]
  exact plain_at _ rfl X w r d

/-- Row `i` of the `q`-th block of queries, among all rows. -/
def row (q : Fin 8) (i : Fin 512) : Fin 4096 := ⟨512 * q.val + i.val, by omega⟩

theorem scores_at (X : Vec Ideal S4096x1024 .f32) (wq wk : Vec Ideal S1024x128 .f32) (q : Fin 8) (i : Fin 512) (j : Fin 4096) :
    scores X wq wk q (ix2 i j)
      = score (fun e => ∑ x : Fin 1024, X (ix2 (row q i) x) * wq (ix2 x e)) (fun j e => ∑ x : Fin 1024, X (ix2 j x) * wk (ix2 x e)) j := by
  unfold scores score
  rw [mulf_apply, shapeCast_self]
  refine congrArg₂ (· * ·) ((trans_at _ rfl _ _ i j).trans (Finset.sum_congr rfl fun e _ => ?_)) rfl
  rw [proj_at]
  refine congrArg (· * _) ((plain_at _ rfl _ _ i e).trans (Finset.sum_congr rfl fun x _ => ?_))
  refine congrArg (· * _) (extractStridedSlice_apply _ _ _ _ _ fun a => ?_)
  match a with
  | ⟨0, _⟩ => rfl
  | ⟨1, _⟩ => exact (Nat.zero_add _).symm

/-- A row's number laid along the row. -/
theorem along_at {N : ℕ} (f : FVec Ideal S512 .f32) (hc : S512.ShapeCasts S512x1) (hb : S512x1.Broadcasts ⟨2, ![512, N]⟩)
    (i : Fin 512) (j : Fin N) : broadcastTo ⟨2, ![512, N]⟩ (shapeCast S512x1 f hc) hb (ix2 i j) = f (ix1 i) := by
  refine (broadcastTo_apply _ _ _ (ix2 i (0 : Fin 1)) fun a => ?_).trans (shapeCast_apply _ _ _ _ ?_)
  · match a with
    | ⟨0, _⟩ => rfl
    | ⟨1, _⟩ => rfl
  · rw [Shape.rowMajor_val_one, Shape.rowMajor_val_two]
    show i.val = i.val * 1 + 0
    omega

theorem lift_row (h : S512x4096.Reduces [1] S512) (i : Fin 512) (j : Fin 4096) : h.lift (ix1 i) j = ix2 i j := by
  funext a; apply Fin.ext
  match a with
  | ⟨0, _⟩ => rfl
  | ⟨1, _⟩ => rfl

theorem weights_at (s : FVec Ideal S512x4096 .f32) (i : Fin 512) (j : Fin 4096) :
    weights s (ix2 i j) = weight (fun j => s (ix2 i j)) j := by
  unfold weights weight
  show Ideal.exp (s (ix2 i j) - _) = _
  refine congrArg (fun x => Ideal.exp (s (ix2 i j) - x)) ((along_at _ _ _ i j).trans ?_)
  refine (Ideal.multiReduction_maximumf_single s _ _ _ _ _).trans ?_
  exact congrArg (Finset.fold max _ · _) (funext fun k => congrArg s (lift_row _ i k))

theorem mix_at (p : FVec Ideal S512x4096 .f32) (v : FVec Ideal S4096x128 .f32) (i : Fin 512) (d : Fin 128) :
    mix p v (ix2 i d) = average (fun j => p (ix2 i j)) (fun j => v (ix2 j d)) := by
  unfold mix average
  rw [divf_apply]
  refine congrArg₂ Ideal.div (plain_at _ rfl p v i d) ((along_at _ _ _ i d).trans ?_)
  refine (Ideal.multiReduction_add_single p _ _ _ _ _).trans (Finset.sum_congr rfl fun k _ => ?_)
  exact congrArg p (lift_row _ i k)

/-- An element of a tile is the attention of its row for its column of the values. -/
theorem tile_at (X : Vec Ideal S4096x1024 .f32) (wq wk wv : Vec Ideal S1024x128 .f32) (q : Fin 8) (i : Fin 512) (d : Fin 128) :
    tileVal X wq wk wv q (ix2 i d)
      = att (fun e => ∑ x : Fin 1024, X (ix2 (row q i) x) * wq (ix2 x e)) (fun j e => ∑ x : Fin 1024, X (ix2 j x) * wk (ix2 x e))
          (fun j => ∑ x : Fin 1024, X (ix2 j x) * wv (ix2 x d)) := by
  unfold tileVal att
  rw [mix_at]
  simp only [weights_at, scores_at, proj_at]

end Cert.Attn

end
-- ==== Proof.RefValue.lean ====
/-
The reference's result, element by element, over the extended reals.
-/
module

public import proofs.«01_k».proof.Proof.Gen.ReferenceIdeal.Run
public import proofs.«01_k».proof.Proof.Spec
public import Idealize.ShloMosaic.Lib.StackMember
public import Idealize.ShloMosaic.Lib.IdealHost
public import Idealize.ShloMosaic.Lib.ValueIdx
public import Idealize.ShloMosaic.Lib.Pipeline.Value

@[expose] public section

noncomputable section

namespace Cert.Attn.Whole

open Cert.ReferenceIdeal Cert.ReferenceIdeal.Gen Cert.ReferenceIdeal.Value
open Idealize.ShloMosaic Idealize.ShloMosaic.ValueIdx Idealize.ShloMosaic.TcCoe

/-- The input's product with a weight, its columns cut into heads. -/
def heads (x : FVec Ideal S1x4096x1024 .f32) (W : FVec Ideal S1024x16384 .f32) : FVec Ideal S4096x128x128 .f32 :=
  shapeCast S4096x128x128 (Host.dotGeneral dot_S4096x1024_S1024x16384_S4096x16384_1_0_0_1_n_n none
    (shapeCast S4096x1024 x shapeCasts_S1x4096x1024_S4096x1024) W) shapeCasts_S4096x16384_S4096x128x128

/-- The scaled scores, head by head. -/
def scores (q k : FVec Ideal S4096x128x128 .f32) : FVec Ideal S128x4096x4096 .f32 :=
  mulf (Host.dotGeneral dot_S4096x128x128_S4096x128x128_S128x4096x4096_2_2_0_0_1_1 none q k)
    (broadcastInDim S128x4096x4096 ![] bcast_S_S128x4096x4096 (constant S_ .f32 0x3DB504F3#32))

/-- Their exponentials, each row's greatest taken off. -/
def weights (s : FVec Ideal S128x4096x4096 .f32) : FVec Ideal S128x4096x4096 .f32 :=
  Host.exp (subf s (broadcastInDim S128x4096x4096 ![0, 1, 2] bcast_S128x4096x1_S128x4096x4096_0_1_2
    (broadcastInDim S128x4096x1 ![0, 1] bcast_S128x4096_S128x4096x1_0_1
      (Host.reduce FloatOps.maximumf s (constant S_ .f32 0xFF800000#32) reducesTo_S128x4096x4096_S128x4096_d2 h_S_))))

/-- The average of the values, rows by columns. -/
def mix (p : FVec Ideal S128x4096x4096 .f32) (v : FVec Ideal S4096x128x128 .f32) : FVec Ideal S4096x16384 .f32 :=
  shapeCast S4096x16384 (Host.divf
    (transpose S4096x128x128 [2, 0, 1] (Host.dotGeneral dot_S4096x128x128_S128x4096x4096_S128x128x4096_0_2_2_1_1_0 none v p)
      transposes_S128x128x4096_S4096x128x128_2_0_1)
    (broadcastInDim S4096x128x128 ![0, 1, 2] bcast_S4096x128x1_S4096x128x128_0_1_2
      (transpose S4096x128x1 [1, 0, 2] (broadcastInDim S128x4096x1 ![0, 1] bcast_S128x4096_S128x4096x1_0_1
        (Host.reduceAdd p (constant S_ .f32 0x00000000#32) reducesTo_S128x4096x4096_S128x4096_d2 h_S_))
        transposes_S128x4096x1_S4096x128x1_1_0_2))) shapeCasts_S4096x128x128_S4096x16384

theorem result_eq (m : (ℓ : Loc nD τ sig) → Buf (Elt Ideal) ℓ) (c : Dev nD) :
    res_out0 m c = mix (weights (scores (heads (m ((c : Thread nD τ).loc main_arg0)) (m ((c : Thread nD τ).loc main_arg1)))
        (heads (m ((c : Thread nD τ).loc main_arg0)) (m ((c : Thread nD τ).loc main_arg2)))))
      (heads (m ((c : Thread nD τ).loc main_arg0)) (m ((c : Thread nD τ).loc main_arg3))) := by
  unfold res_out0 res_main_v24; rfl

/-- Column `d` of head `h`. -/
def col (h : Fin 128) (d : Fin 128) : Fin 16384 := ⟨128 * h.val + d.val, by omega⟩

theorem heads_at (x : FVec Ideal S1x4096x1024 .f32) (W : FVec Ideal S1024x16384 .f32) (r : Fin 4096) (h d : Fin 128) :
    heads x W (ix3 r h d) = ∑ e : Fin 1024, x (ix3 (0 : Fin 1) r e) * W (ix2 e (col h d)) := by
  unfold heads
  refine (shapeCast_apply _ _ _ (ix2 r (col h d)) ?_).trans ((StackMember.dotGeneral_plain_apply none _ W r (col h d)).trans (Finset.sum_congr rfl fun e _ => ?_))
  · rw [Shape.rowMajor_val_two, Shape.rowMajor_val_three]
    show r.val * 16384 + (128 * h.val + d.val) = (r.val * 128 + h.val) * 128 + d.val
    omega
  · refine congrArg (· * _) (shapeCast_apply _ _ _ _ ?_)
    rw [Shape.rowMajor_val_two, Shape.rowMajor_val_three]
    show (0 * 4096 + r.val) * 1024 + e.val = r.val * 1024 + e.val
    omega

theorem scores_at (q k : FVec Ideal S4096x128x128 .f32) (h : Fin 128) (i j : Fin 4096) :
    scores q k (ix3 h i j) = score (fun e => q (ix3 i h e)) (fun j e => k (ix3 j h e)) j := by
  unfold scores score
  rw [mulf_apply, broadcastInDim_scalar_apply]
  refine congrArg₂ (· * ·) ?_ rfl
  let D := dot_S4096x128x128_S4096x128x128_S128x4096x4096_2_2_0_0_1_1
  refine (Ideal.dotGeneral_apply D none _ q k _).trans ?_
  rw [← Equiv.sum_comp (contrEquiv1 D 128 rfl rfl).symm]
  refine Finset.sum_congr rfl fun e _ => ?_
  have he := contrEquiv1_symm_val D 128 rfl rfl e
  refine congrArg₂ (· * ·) (congrArg q (funext fun a => Fin.ext ?_)) (congrArg k (funext fun a => Fin.ext ?_))
  · match a with
    | ⟨0, _⟩ => rfl
    | ⟨1, _⟩ => rfl
    | ⟨2, _⟩ => exact he
  · match a with
    | ⟨0, _⟩ => rfl
    | ⟨1, _⟩ => rfl
    | ⟨2, _⟩ => exact he

theorem reduces_last : S128x4096x4096.Reduces [2] S128x4096 := by decide
theorem lift_last (h : Fin 128) (i j : Fin 4096) : reduces_last.lift (ix2 h i) j = ix3 h i j := by
  funext a; apply Fin.ext
  match a with
  | ⟨0, _⟩ => rfl
  | ⟨1, _⟩ => rfl
  | ⟨2, _⟩ => rfl

/-- A number of each head and row, kept as a column of one. -/
theorem column_at (f : FVec Ideal S128x4096 .f32) (h : Fin 128) (i : Fin 4096) (z : Fin 1) :
    broadcastInDim S128x4096x1 ![0, 1] bcast_S128x4096_S128x4096x1_0_1 f (ix3 h i z) = f (ix2 h i) :=
  broadcastInDim_apply _ _ _ _ _ fun a => match a with
    | ⟨0, _⟩ => rfl
    | ⟨1, _⟩ => rfl

theorem weights_at (s : FVec Ideal S128x4096x4096 .f32) (h : Fin 128) (i j : Fin 4096) :
    weights s (ix3 h i j) = weight (fun j => s (ix3 h i j)) j := by
  unfold weights weight
  show Ideal.exp (s (ix3 h i j) - _) = _
  refine congrArg (fun x => Ideal.exp (s (ix3 h i j) - x)) ?_
  refine (broadcastInDim_apply _ _ _ _ (ix3 h i (0 : Fin 1)) fun a => ?_).trans ((column_at _ h i 0).trans ?_)
  · match a with
    | ⟨0, _⟩ => rfl
    | ⟨1, _⟩ => rfl
    | ⟨2, _⟩ => rfl
  refine (Host.reduce_eq_fold_single _ s _ _ reduces_last _ _).trans ?_
  exact congrArg (Finset.fold max _ · _) (funext fun k => congrArg s (lift_last h i k))

theorem mix_at (p : FVec Ideal S128x4096x4096 .f32) (v : FVec Ideal S4096x128x128 .f32) (r : Fin 4096) (h d : Fin 128) :
    mix p v (ix2 r (col h d)) = average (fun j => p (ix3 h r j)) (fun j => v (ix3 j h d)) := by
  unfold mix average
  refine (shapeCast_apply _ _ _ (ix3 r h d) ?_).trans ?_
  · rw [Shape.rowMajor_val_two, Shape.rowMajor_val_three]
    show (r.val * 128 + h.val) * 128 + d.val = r.val * 16384 + (128 * h.val + d.val)
    omega
  show Ideal.div _ _ = _
  refine congrArg₂ Ideal.div ?_ ?_
  · refine (transpose_apply _ _ _ _ (ix3 h d r) fun b => ?_).trans ?_
    · match b with
      | ⟨0, _⟩ => rfl
      | ⟨1, _⟩ => rfl
      | ⟨2, _⟩ => rfl
    let D := dot_S4096x128x128_S128x4096x4096_S128x128x4096_0_2_2_1_1_0
    refine (Ideal.dotGeneral_apply D none _ v p _).trans ?_
    rw [← Equiv.sum_comp (contrEquiv1 D 4096 rfl rfl).symm]
    refine Finset.sum_congr rfl fun e _ => ?_
    have he := contrEquiv1_symm_val D 4096 rfl rfl e
    refine (mul_comm _ _).trans (congrArg₂ (· * ·) (congrArg p (funext fun a => Fin.ext ?_)) (congrArg v (funext fun a => Fin.ext ?_)))
    · match a with
      | ⟨0, _⟩ => rfl
      | ⟨1, _⟩ => rfl
      | ⟨2, _⟩ => exact he
    · match a with
      | ⟨0, _⟩ => exact he
      | ⟨1, _⟩ => rfl
      | ⟨2, _⟩ => rfl
  · refine (broadcastInDim_apply _ _ _ _ (ix3 r h (0 : Fin 1)) fun a => ?_).trans ?_
    · match a with
      | ⟨0, _⟩ => rfl
      | ⟨1, _⟩ => rfl
      | ⟨2, _⟩ => rfl
    refine (transpose_apply _ _ _ _ (ix3 h r (0 : Fin 1)) fun b => ?_).trans ((column_at _ h r 0).trans ?_)
    · match b with
      | ⟨0, _⟩ => rfl
      | ⟨1, _⟩ => rfl
      | ⟨2, _⟩ => rfl
    refine (hostReduceAdd_apply p _ _ _ _).trans ((Ideal.hostReduceAdd_single _ reduces_last p _ _).trans ?_)
    rw [constant_apply, Ideal.ofBits_zero_f32, zero_add]
    exact Finset.sum_congr rfl fun k _ => congrArg p (lift_last h r k)

/-- An element of the reference's result is the attention of its row, for its column, in its head. -/
theorem result_at (x : FVec Ideal S1x4096x1024 .f32) (Wq Wk Wv : FVec Ideal S1024x16384 .f32) (r : Fin 4096) (h d : Fin 128) :
    mix (weights (scores (heads x Wq) (heads x Wk))) (heads x Wv) (ix2 r (col h d))
      = att (fun e => ∑ y : Fin 1024, x (ix3 (0 : Fin 1) r y) * Wq (ix2 y (col h e)))
          (fun j e => ∑ y : Fin 1024, x (ix3 (0 : Fin 1) j y) * Wk (ix2 y (col h e)))
          (fun j => ∑ y : Fin 1024, x (ix3 (0 : Fin 1) j y) * Wv (ix2 y (col h d))) := by
  unfold att
  rw [mix_at]
  simp only [weights_at, scores_at, heads_at]

end Cert.Attn.Whole

end
-- ==== Proof.Value.lean ====
/-
The kernel's result against the reference's: on every device, its block of columns of the whole attention.
-/
module

public import proofs.«01_k».proof.Proof.Launch
public import proofs.«01_k».proof.Proof.TileValue
public import proofs.«01_k».proof.Proof.RefValue

@[expose] public section

noncomputable section

namespace Cert.Attn

open Cert.KernelIdeal Cert.KernelIdeal.Gen
open Idealize.ShloMosaic Idealize.ShloMosaic.ValueIdx Idealize.ShloMosaic.TcCoe

section Staged

variable {F : FTy → Type} [FloatOps F] (m : (ℓ : Loc nD τ sig) → Buf (Elt F) ℓ) (ρ : Dev nD → PrngReg)

/-! ## A staged array is the whole array -/

theorem xstg_whole (c : Dev nD) : xstg m c = m ((c : Thread nD τ).loc main_arg0) :=
  Memref.read_access_unit_zero (Elt F) main_arg0
    (show (fun a => (win0_0.index (0 : Fin 1)) a * main_arg0.ty.shape.size a) = fun _ => 0 from funext fun a => by fin_cases a <;> decide)
    (fun a => by fin_cases a <;> decide) _
theorem wqs_whole (c : Dev nD) : wqs m c = m ((c : Thread nD τ).loc main_arg1) :=
  Memref.read_access_unit_zero (Elt F) main_arg1
    (show (fun a => (win0_1.index (0 : Fin 1)) a * main_arg1.ty.shape.size a) = fun _ => 0 from funext fun a => by fin_cases a <;> decide)
    (fun a => by fin_cases a <;> decide) _
theorem wks_whole (c : Dev nD) : wks m c = m ((c : Thread nD τ).loc main_arg2) :=
  Memref.read_access_unit_zero (Elt F) main_arg2
    (show (fun a => (win0_2.index (0 : Fin 1)) a * main_arg2.ty.shape.size a) = fun _ => 0 from funext fun a => by fin_cases a <;> decide)
    (fun a => by fin_cases a <;> decide) _
theorem wvs_whole (c : Dev nD) : wvs m c = m ((c : Thread nD τ).loc main_arg3) :=
  Memref.read_access_unit_zero (Elt F) main_arg3
    (show (fun a => (win0_3.index (0 : Fin 1)) a * main_arg3.ty.shape.size a) = fun _ => 0 from funext fun a => by fin_cases a <;> decide)
    (fun a => by fin_cases a <;> decide) _

/-- The result array ends as the attention of the device's heads. -/
theorem final_result (c : Dev nD) : finalA m ρ c (4 : Fin 5) = outs m c :=
  (Memref.read_access_unit_zero (Elt F) main_v1
    (show (fun a => (win0_4.index (0 : Fin 1)) a * main_v1.ty.shape.size a) = fun _ => 0 from funext fun a => by fin_cases a <;> decide)
    (fun a => by fin_cases a <;> decide) _).symm.trans (finalA_out m ρ c)

/-- Every run ends with the result of each device its heads' attention, the arguments as they were, no counter left. -/
theorem run_result :
    θ_run defs (onTc (τ := τ) (main (F := F))) ⟨m, fun _ => 0, ρ⟩ (fun r =>
      (∀ c : Dev nD, r.2.mem ((c : Thread nD τ).loc main_v1) = outs m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => ⟨(h.1 c (4 : Fin 5)).trans (final_result m ρ c),
      (h.1 c (0 : Fin 5)).trans (finalA_in m ρ c (0 : Fin 5) rfl), (h.1 c (1 : Fin 5)).trans (finalA_in m ρ c (1 : Fin 5) rfl),
      (h.1 c (2 : Fin 5)).trans (finalA_in m ρ c (2 : Fin 5) rfl), (h.1 c (3 : Fin 5)).trans (finalA_in m ρ c (3 : Fin 5) rfl)⟩, h.2⟩)
    (run_main m ρ)

end Staged

/-! ## A device's arrays as blocks of the whole ones -/

variable (m : (ℓ : Loc nD τ sig) → Buf (Elt Ideal) ℓ)

/-- The gathered `x` is the whole `x`. -/
theorem gathered_at (x : FVec Ideal ⟨3, ![1, 4096, 1024]⟩ .f32)
    (hx : ∀ c : Dev nD, m ((c : Thread nD τ).loc main_arg0) = Layout.block ⟨3, ![1, 256, 1024]⟩ ⟨3, ![1, 4096, 1024]⟩ 1 16 c x)
    (r : Fin 4096) (e : Fin 1024) : XF m (ix2 r e) = x (ix3 (0 : Fin 1) r e) := by
  unfold XF k0_pay1
  rw [shapeCast_self, xstg_whole, hx]
  refine (shapeCast_apply _ _ _ (ix3 (0 : Fin 1) (⟨r.val % 256, Nat.mod_lt _ (by decide)⟩ : Fin 256) e) ?_).trans ?_
  · rw [Shape.rowMajor_val_two, Shape.rowMajor_val_three]
    show (0 * 256 + r.val % 256) * 1024 + e.val = r.val % 256 * 1024 + e.val % 1024
    have := e.isLt
    omega
  · rw [Layout.block_apply]
    refine congrArg x (funext fun a => Fin.ext ?_)
    match a with
    | ⟨0, _⟩ => rfl
    | ⟨1, _⟩ => show r.val / 256 * 256 + r.val % 256 = r.val; omega
    | ⟨2, _⟩ => rfl

/-- The head of all heads which is device `c`'s `h`-th. -/
def headOf (c : Dev nD) (h : Fin 8) : Fin 128 := ⟨8 * c.val + h.val, by have h1 : c.val < 16 := c.isLt; omega⟩

/-- A head's columns of a device's weights are that head's columns of the whole weights. -/
theorem weight_at (W : FVec Ideal ⟨2, ![1024, 16384]⟩ .f32) (w : Vec Ideal S1024x1024 .f32) (c : Dev nD)
    (hw : w = Layout.block ⟨2, ![1024, 1024]⟩ ⟨2, ![1024, 16384]⟩ 1 16 c W) (h : Fin 8) (y : Fin 1024) (d : Fin 128) :
    wBlk w h (ix2 y d) = W (ix2 y (Whole.col (headOf c h) d)) := by
  subst hw
  unfold wBlk
  rw [Layout.block_apply]
  refine congrArg W (funext fun a => Fin.ext ?_)
  match a with
  | ⟨0, _⟩ => show 0 + 1 * y.val = y.val; omega
  | ⟨1, _⟩ => show c.val * 1024 + (128 * h.val + 1 * d.val) = 128 * (8 * c.val + h.val) + d.val; omega

/-- A device's result is its block of columns of the whole attention. -/
theorem result_block (x : FVec Ideal ⟨3, ![1, 4096, 1024]⟩ .f32) (Wq Wk Wv : FVec Ideal ⟨2, ![1024, 16384]⟩ .f32)
    (hx : ∀ c : Dev nD, m ((c : Thread nD τ).loc main_arg0) = Layout.block ⟨3, ![1, 256, 1024]⟩ ⟨3, ![1, 4096, 1024]⟩ 1 16 c x)
    (c : Dev nD)
    (hq : m ((c : Thread nD τ).loc main_arg1) = Layout.block ⟨2, ![1024, 1024]⟩ ⟨2, ![1024, 16384]⟩ 1 16 c Wq)
    (hk : m ((c : Thread nD τ).loc main_arg2) = Layout.block ⟨2, ![1024, 1024]⟩ ⟨2, ![1024, 16384]⟩ 1 16 c Wk)
    (hv : m ((c : Thread nD τ).loc main_arg3) = Layout.block ⟨2, ![1024, 1024]⟩ ⟨2, ![1024, 16384]⟩ 1 16 c Wv) :
    outs m c = Layout.block ⟨2, ![4096, 1024]⟩ ⟨2, ![4096, 16384]⟩ 1 16 c
      (Whole.mix (Whole.weights (Whole.scores (Whole.heads x Wq) (Whole.heads x Wk))) (Whole.heads x Wv)) := by
  funext i
  obtain ⟨h, q, t, rfl⟩ : ∃ h q t, (tRect h q).emb t = i := ⟨_, _, _, emb_spot i⟩
  obtain ⟨a, d, rfl⟩ : ∃ (a : Fin 512) (d : Fin 128), t = ix2 a d := ⟨t 0, t 1, eq_ix2 t⟩
  rw [Layout.block_apply]
  have hi : Layout.Tiles.idx (S := ⟨2, ![4096, 1024]⟩) (T := ⟨2, ![4096, 16384]⟩) (a := 1) (k := 16) (by decide) c ((tRect h q).emb (ix2 a d))
      = ix2 (row q a) (Whole.col (headOf c h) d) := by
    funext b; apply Fin.ext
    match b with
    | ⟨0, _⟩ => show 512 * q.val + 1 * a.val = 512 * q.val + a.val; omega
    | ⟨1, _⟩ => show c.val * 1024 + (128 * h.val + 1 * d.val) = 128 * (8 * c.val + h.val) + d.val; omega
  rw [hi, Whole.result_at]
  unfold outs attn
  rw [hd_emb, qb_emb, spot_emb, tile_at]
  simp only [gathered_at m x hx, weight_at Wq (wqs m c) c ((wqs_whole m c).trans hq), weight_at Wk (wks m c) c ((wks_whole m c).trans hk),
    weight_at Wv (wvs m c) c ((wvs_whole m c).trans hv)]

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

section Same

attribute [local instance] Cert.Kernel.Gen.facts Cert.KernelIdeal.Gen.facts

/-! The two programs have one text: their bodies are one function, and so are their tables. -/

theorem body_same : Cert.Kernel.cc0_body (F := Bits) = Cert.KernelIdeal.cc0_body := rfl

theorem table_same : Cert.Kernel.defs₀ (F := Bits) = Cert.KernelIdeal.defs₀ := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun body_same _) _) _) _) _) _) _) _) _) _) _) _) _) _

theorem defs_same : Cert.Kernel.defs (F := Bits) = Cert.KernelIdeal.defs :=
  congrArg (Pipeline.defs _) table_same

/-- The kernel on bit patterns runs, its arguments unchanged and its counters zero: the one run, at the bits. -/
theorem frame_kernel : Cert.quiescent_Kernel := by
  intro m ρ _
  rw [defs_same]
  exact (θ_run Cert.KernelIdeal.defs _ _).mono (fun _ h => ⟨fun c => (h.1 c).2, h.2⟩) (Cert.Attn.run_result (F := Bits) m ρ)

end Same

/-- The same over the extended reals. -/
theorem frame_ideal : Cert.quiescent_KernelIdeal := fun m ρ _ =>
  (θ_run Cert.KernelIdeal.defs _ _).mono (fun _ h => ⟨fun c => (h.1 c).2, h.2⟩) (Cert.Attn.run_result (F := Ideal) m ρ)

/-- The reference runs; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its block of the reference's. -/
theorem value : Cert.algebraic_KernelIdeal_ReferenceIdeal := by
  intro m ρ m' ρ' _ hag
  refine ⟨Cert.ReferenceIdeal.Value.res_out0 m' 0, ?_, ?_⟩
  · refine (θ_run Cert.KernelIdeal.defs _ _).mono (fun _ h c => ⟨(h.1 c).1.trans ?_, (h.1 c).2⟩) (Cert.Attn.run_result (F := Ideal) m ρ)
    rw [Cert.Attn.Whole.result_eq]
    exact Cert.Attn.result_block m _ _ _ _ (fun c => (hag c).1) c (hag c).2.1 (hag c).2.2.1 (hag c).2.2.2
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
